-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dy_in_range [hPre_dy_in_range : Cert.Pre_dy_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_dy_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dy_in_range [hPre_dy_in_range : Cert.Pre_dy_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dy_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_dy_in_range [hKernelIdeal : Cert.KernelIdeal.Facts] [hPre_dy_in_range : Cert.Pre_dy_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dy_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_dy_in_range [hReferenceIdeal : Cert.ReferenceIdeal.Facts] [hPre_dy_in_range : Cert.Pre_dy_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dy_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_dy_in_range [hKernelIdeal : Cert.KernelIdeal.Facts] [hReferenceIdeal : Cert.ReferenceIdeal.Facts] [hPre_dy_in_range : Cert.Pre_dy_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dy_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_dy_in_range : Cert.Pre_dy_in_range.Facts),
    quiescent_Kernel (hKernel := hKernel)
    ∧ quiescent_KernelIdeal (hKernelIdeal := hKernelIdeal)
    ∧ quiescent_KernelIdeal_pre_dy_in_range (hKernelIdeal := hKernelIdeal) (hPre_dy_in_range := hPre_dy_in_range)
    ∧ quiescent_ReferenceIdeal (hReferenceIdeal := hReferenceIdeal)
    ∧ quiescent_ReferenceIdeal_pre_dy_in_range (hReferenceIdeal := hReferenceIdeal) (hPre_dy_in_range := hPre_dy_in_range)
    ∧ preserves_Kernel_KernelIdeal
    ∧ algebraic_KernelIdeal_ReferenceIdeal_pre_dy_in_range (hKernelIdeal := hKernelIdeal) (hReferenceIdeal := hReferenceIdeal) (hPre_dy_in_range := hPre_dy_in_range)
-- ==== Pre_dy_in_range.lean ====
abbrev S64x4096x1280 : Shape := ⟨3, ![64, 4096, 1280]⟩
abbrev S64x32x1280 : Shape := ⟨3, ![64, 32, 1280]⟩
abbrev S64x4096x1408 : Shape := ⟨3, ![64, 4096, 1408]⟩
abbrev S1280x1408 : Shape := ⟨2, ![1280, 1408]⟩
abbrev S_ : Shape := ⟨0, ![]⟩

class Facts : Prop where
  bitsLt_bf16_f32 : FTy.bits .bf16 < FTy.bits .f32
  bcast_S_S64x4096x1408 : S_.BroadcastsInDim S64x4096x1408 (![] : Fin 0 → Fin S64x4096x1408.rank)

variable [Facts]

def fn {F : FTy → Type} [FloatOps F] (main_arg0 : FVec F S64x4096x1280 .fp8e4m3) (main_arg1 : FVec F S64x32x1280 .f32) (main_arg2 : FVec F S64x4096x1408 .bf16) (main_arg3 : FVec F S1280x1408 .f32) : IVec S64x4096x1408 1 :=
  let main_v0 : FVec F S64x4096x1408 .f32 := (extf .f32 · bitsLt_bf16_f32) main_arg2
  let main_v1 : FVec F S64x4096x1408 .f32 := Host.absf main_v0
  let main_cst : FVec F S_ .f32 := constant S_ .f32 0x7F7F0000#32
  let main_v2 : FVec F S64x4096x1408 .f32 := broadcastInDim S64x4096x1408 ![] bcast_S_S64x4096x1408 main_cst
  let main_v3 : IVec S64x4096x1408 1 := cmpf .ole main_v1 main_v2
  let main_cst_0 : FVec F S_ .f32 := constant S_ .f32 0x7F800000#32
  let main_v4 : FVec F S64x4096x1408 .f32 := broadcastInDim S64x4096x1408 ![] bcast_S_S64x4096x1408 main_cst_0
  let main_v5 : IVec S64x4096x1408 1 := cmpf .oeq main_v1 main_v4
  let main_v6 : IVec S64x4096x1408 1 := ori main_v3 main_v5
  main_v6
-- ==== Kernel.lean ====
abbrev S64x4096x1280 : Shape := ⟨3, ![64, 4096, 1280]⟩
abbrev S64x32x1280 : Shape := ⟨3, ![64, 32, 1280]⟩
abbrev S64x4096x1408 : Shape := ⟨3, ![64, 4096, 1408]⟩
abbrev S1280x1408 : Shape := ⟨2, ![1280, 1408]⟩
abbrev S262144x1280 : Shape := ⟨2, ![262144, 1280]⟩
abbrev S2048x1280 : Shape := ⟨2, ![2048, 1280]⟩
abbrev S262144x1408 : Shape := ⟨2, ![262144, 1408]⟩
abbrev S2048x1408 : Shape := ⟨2, ![2048, 1408]⟩
abbrev S1024x1280 : Shape := ⟨2, ![1024, 1280]⟩
abbrev S8x1280 : Shape := ⟨2, ![8, 1280]⟩
abbrev S1024x1408 : Shape := ⟨2, ![1024, 1408]⟩
abbrev S8x1408 : Shape := ⟨2, ![8, 1408]⟩
abbrev S1408x1280 : Shape := ⟨2, ![1408, 1280]⟩
abbrev S1x1280 : Shape := ⟨2, ![1, 1280]⟩
abbrev S16x1280 : Shape := ⟨2, ![16, 1280]⟩
abbrev S128x1280 : Shape := ⟨2, ![128, 1280]⟩
abbrev S16x256 : Shape := ⟨2, ![16, 256]⟩
abbrev S256 : Shape := ⟨1, ![256]⟩
abbrev S1x256 : Shape := ⟨2, ![1, 256]⟩
abbrev S255x256 : Shape := ⟨2, ![255, 256]⟩
abbrev S128x256 : Shape := ⟨2, ![128, 256]⟩
abbrev S1024x256 : Shape := ⟨2, ![1024, 256]⟩
abbrev S256x1280 : Shape := ⟨2, ![256, 1280]⟩
abbrev S16x128 : Shape := ⟨2, ![16, 128]⟩
abbrev S128 : Shape := ⟨1, ![128]⟩
abbrev S1x128 : Shape := ⟨2, ![1, 128]⟩
abbrev S255x128 : Shape := ⟨2, ![255, 128]⟩
abbrev S128x128 : Shape := ⟨2, ![128, 128]⟩
abbrev S1024x128 : Shape := ⟨2, ![1024, 128]⟩
abbrev S1280x128 : Shape := ⟨2, ![1280, 128]⟩

abbrev nBuf : Space → Nat
  | .hbm => 10
  | .vmem => 14
  | .smem => 0
  | _ => 0

abbrev bufTy : (tb : Table) → Fin (tcTables nBuf tb) → BufTy
  | .hbm, ⟨0, _⟩ => ⟨S64x4096x1280, .fp8e4m3⟩
  | .hbm, ⟨1, _⟩ => ⟨S64x32x1280, .f32⟩
  | .hbm, ⟨2, _⟩ => ⟨S64x4096x1408, .bf16⟩
  | .hbm, ⟨3, _⟩ => ⟨S1280x1408, .f32⟩
  | .hbm, ⟨4, _⟩ => ⟨S262144x1280, .fp8e4m3⟩
  | .hbm, ⟨5, _⟩ => ⟨S2048x1280, .f32⟩
  | .hbm, ⟨6, _⟩ => ⟨S262144x1408, .bf16⟩
  | .hbm, ⟨7, _⟩ => ⟨S1280x1408, .f32⟩
  | .hbm, ⟨8, _⟩ => ⟨S262144x1408, .fp8e5m2⟩
  | .hbm, ⟨9, _⟩ => ⟨S2048x1408, .f32⟩
  | .local _ .vmem, ⟨0, _⟩ => ⟨S1024x1280, .fp8e4m3⟩
  | .local _ .vmem, ⟨1, _⟩ => ⟨S1024x1280, .fp8e4m3⟩
  | .local _ .vmem, ⟨2, _⟩ => ⟨S8x1280, .f32⟩
  | .local _ .vmem, ⟨3, _⟩ => ⟨S8x1280, .f32⟩
  | .local _ .vmem, ⟨4, _⟩ => ⟨S1024x1408, .bf16⟩
  | .local _ .vmem, ⟨5, _⟩ => ⟨S1024x1408, .bf16⟩
  | .local _ .vmem, ⟨6, _⟩ => ⟨S1280x1408, .f32⟩
  | .local _ .vmem, ⟨7, _⟩ => ⟨S1280x1408, .f32⟩
  | .local _ .vmem, ⟨8, _⟩ => ⟨S1024x1408, .fp8e5m2⟩
  | .local _ .vmem, ⟨9, _⟩ => ⟨S1024x1408, .fp8e5m2⟩
  | .local _ .vmem, ⟨10, _⟩ => ⟨S8x1408, .f32⟩
  | .local _ .vmem, ⟨11, _⟩ => ⟨S8x1408, .f32⟩
  | .local _ .vmem, ⟨12, _⟩ => ⟨S1408x1280, .f32⟩
  | .local _ .vmem, ⟨13, _⟩ => ⟨S1024x1280, .bf16⟩
  | _, _ => ⟨S64x4096x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32_1644 : BitVec 32 := 255#32
  let v4283 : BitVec 1 := Scalar.cmpi .eq arg0 c255_i32_1644
  let v4284 : BitVec 32 := Scalar.extui v4283
  let c0_i32_1645 : BitVec 32 := 0#32
  let v4285 : BitVec 1 := Scalar.cmpi .ne v4284 c0_i32_1645
  v4285

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1280 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1280x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1408 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S64x4096x1280 : Shape := ⟨3, ![64, 4096, 1280]⟩
abbrev S64x32x1280 : Shape := ⟨3, ![64, 32, 1280]⟩
abbrev S64x4096x1408 : Shape := ⟨3, ![64, 4096, 1408]⟩
abbrev S1280x1408 : Shape := ⟨2, ![1280, 1408]⟩
abbrev S262144x1280 : Shape := ⟨2, ![262144, 1280]⟩
abbrev S2048x1280 : Shape := ⟨2, ![2048, 1280]⟩
abbrev S262144x1408 : Shape := ⟨2, ![262144, 1408]⟩
abbrev S2048x1408 : Shape := ⟨2, ![2048, 1408]⟩
abbrev S2048x128x1408 : Shape := ⟨3, ![2048, 128, 1408]⟩
abbrev S2048x1x1408 : Shape := ⟨3, ![2048, 1, 1408]⟩
abbrev S2048x128x1280 : Shape := ⟨3, ![2048, 128, 1280]⟩
abbrev S2048x1x1280 : Shape := ⟨3, ![2048, 1, 1280]⟩

abbrev nBuf : Space → Nat
  | .hbm => 10
  | .vmem => 7
  | .smem => 0
  | _ => 0

abbrev bufTy : (tb : Table) → Fin (tcTables nBuf tb) → BufTy
  | .hbm, ⟨0, _⟩ => ⟨S64x4096x1280, .fp8e4m3⟩
  | .hbm, ⟨1, _⟩ => ⟨S64x32x1280, .f32⟩
  | .hbm, ⟨2, _⟩ => ⟨S64x4096x1408, .bf16⟩
  | .hbm, ⟨3, _⟩ => ⟨S1280x1408, .f32⟩
  | .hbm, ⟨4, _⟩ => ⟨S262144x1280, .fp8e4m3⟩
  | .hbm, ⟨5, _⟩ => ⟨S2048x1280, .f32⟩
  | .hbm, ⟨6, _⟩ => ⟨S262144x1408, .bf16⟩
  | .hbm, ⟨7, _⟩ => ⟨S1280x1408, .f32⟩
  | .hbm, ⟨8, _⟩ => ⟨S262144x1408, .fp8e5m2⟩
  | .hbm, ⟨9, _⟩ => ⟨S2048x1408, .f32⟩
  | .local _ .vmem, ⟨0, _⟩ => ⟨S262144x1280, .fp8e4m3⟩
  | .local _ .vmem, ⟨1, _⟩ => ⟨S2048x1280, .f32⟩
  | .local _ .vmem, ⟨2, _⟩ => ⟨S262144x1408, .bf16⟩
  | .local _ .vmem, ⟨3, _⟩ => ⟨S1280x1408, .f32⟩
  | .local _ .vmem, ⟨4, _⟩ => ⟨S1280x1408, .f32⟩
  | .local _ .vmem, ⟨5, _⟩ => ⟨S262144x1408, .fp8e5m2⟩
  | .local _ .vmem, ⟨6, _⟩ => ⟨S2048x1408, .f32⟩
  | _, _ => ⟨S64x4096x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S262144x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S262144x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S262144x1408 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Tile.lean ====
/- The kernel's per-tile computation, written once for a tile of any width: the count that stands for the exponent,
   the two powers of two, the codes, the dequantised rows and the accumulator's update. -/
module

public import proofs.«01_k».proof.Proof.Gen.KernelIdeal.Skeleton

@[expose] public section

noncomputable section

namespace Cert.KernelIdeal.Tile

open Idealize.ShloMosaic Idealize.SL.Sem Cert.KernelIdeal Cert.KernelIdeal.Gen

/-- A matrix's shape. -/
abbrev R2 (n w : Nat) : Shape := ⟨2, ![n, w]⟩
/-- A vector's shape. -/
abbrev R1 (w : Nat) : Shape := ⟨1, ![w]⟩

/-- The shape relations a tile of width `w` needs. -/
structure Width (w : Nat) : Prop where
  up : (R1 w).ShapeCasts (R2 1 w)
  red16 : (R2 16 w).Reduces [0] (R1 w)
  red255 : (R2 255 w).Reduces [0] (R1 w)
  iota : (R2 255 w).Iotas .tc 32 [0]
  to255 : (R2 1 w).Broadcasts (R2 255 w)
  to16 : (R2 1 w).Broadcasts (R2 16 w)
  cat16 : Shape.Concatenates [R2 16 w, R2 16 w, R2 16 w, R2 16 w, R2 16 w, R2 16 w, R2 16 w, R2 16 w] (R2 128 w) 0
  cat128 : Shape.Concatenates [R2 128 w, R2 128 w, R2 128 w, R2 128 w, R2 128 w, R2 128 w, R2 128 w, R2 128 w] (R2 1024 w) 0

/-- The facts of shape for 256 columns. -/
theorem width256 : Width 256 where
  up := shapeCasts_S256_S1x256
  red16 := reduces_S16x256_S256
  red255 := reduces_S255x256_S256
  iota := iota_S255x256_d0_w32
  to255 := broadcasts_S1x256_S255x256
  to16 := broadcasts_S1x256_S16x256
  cat16 := concatenates_S16x256_S16x256_S16x256_S16x256_S16x256_S16x256_S16x256_S16x256_S128x256_d0
  cat128 := concatenates_S128x256_S128x256_S128x256_S128x256_S128x256_S128x256_S128x256_S128x256_S1024x256_d0

/-- The facts of shape for 128 columns. -/
theorem width128 : Width 128 where
  up := shapeCasts_S128_S1x128
  red16 := reduces_S16x128_S128
  red255 := reduces_S255x128_S128
  iota := iota_S255x128_d0_w32
  to255 := broadcasts_S1x128_S255x128
  to16 := broadcasts_S1x128_S16x128
  cat16 := concatenates_S16x128_S16x128_S16x128_S16x128_S16x128_S16x128_S16x128_S16x128_S128x128_d0
  cat128 := concatenates_S128x128_S128x128_S128x128_S128x128_S128x128_S128x128_S128x128_S128x128_S1024x128_d0

variable {F : FTy → Type} [FloatOps F] {w : Nat}

/-- A vector under an identical shape. -/
def same {s : Shape} {α : Type} (v : s.Idx → α) : s.Idx → α := shapeCast s v rfl

/-- The elementwise maximum of the magnitudes of eight slices of sixteen rows. -/
def rowMax (v : Fin 8 → FVec F (R2 16 w) .bf16) : FVec F (R2 16 w) .bf16 :=
  maximumf (maximumf (maximumf (maximumf (maximumf (maximumf (maximumf (absf (same (v 0))) (absf (same (v 1)))) (absf (same (v 2))))
    (absf (same (v 3)))) (absf (same (v 4)))) (absf (same (v 5)))) (absf (same (v 6)))) (absf (same (v 7)))

/-- Each column's greatest magnitude divided by the format's greatest value. -/
def normal (h : Width w) (v : Fin 8 → FVec F (R2 16 w) .bf16) : FVec F (R2 1 w) .f32 :=
  mulf (shapeCast (R2 1 w) (multiReduction .maximumf [0] (R1 w) (extf .f32 (rowMax v) bitsLt_bf16_f32) 0xFF800000#32 h.red16 (.inl rfl) rfl) h.up)
    (broadcast (R2 1 w) (Scalar.ofBits .f32 0x37924925#32))

/-- The powers of two `2^-126 … 2^128` (the last is infinite), one per row. -/
def powers (h : Width w) : FVec F (R2 255 w) .f32 :=
  bitcastToFloat .f32 (shli (addi (iota .tc (R2 255 w) 32 [0] h.iota) (broadcast (R2 255 w) 1#32)) (broadcast (R2 255 w) 23#32))

/-- How many of the powers are at most the column's value. -/
def count (h : Width w) (y : FVec F (R2 1 w) .f32) : IVec (R2 1 w) 32 :=
  shapeCast (R2 1 w) (multiReductionI .add [0] (R1 w)
    (extui 32 (cmpf .oge (broadcastTo (R2 255 w) (absf y) h.to255) (powers h)) natLt_1_32) 0#32 h.red255 rfl) h.up

/-- The exponent field, replaced by 126 at zero, below the normal range and at infinity. -/
def field (h : Width w) (v : Fin 8 → FVec F (R2 16 w) .bf16) : IVec (R2 1 w) 32 :=
  select (ori (cmpi .eq (count h (normal h v)) (broadcast (R2 1 w) 0#32)) (cmpi .eq (count h (normal h v)) (broadcast (R2 1 w) 255#32)))
    (broadcast (R2 1 w) 126#32) (count h (normal h v))

/-- The scale of each column: a power of two put together from its exponent field. -/
def scale (h : Width w) (v : Fin 8 → FVec F (R2 16 w) .bf16) : FVec F (R2 1 w) .f32 :=
  bitcastToFloat .f32 (shli (addi (field h v) (broadcast (R2 1 w) 1#32)) (broadcast (R2 1 w) 23#32))

/-- The reciprocal of the scale, put together likewise. -/
def inverse (h : Width w) (v : Fin 8 → FVec F (R2 16 w) .bf16) : FVec F (R2 1 w) .f32 :=
  bitcastToFloat .f32 (shli (subi (broadcast (R2 1 w) 253#32) (field h v)) (broadcast (R2 1 w) 23#32))

/-- Eight slices of sixteen rows, one below the other. -/
def stack (h : Width w) (v : Fin 8 → FVec F (R2 16 w) .bf16) : FVec F (R2 128 w) .bf16 :=
  concatenate (R2 128 w) 0 [⟨R2 16 w, v 0⟩, ⟨R2 16 w, v 1⟩, ⟨R2 16 w, v 2⟩, ⟨R2 16 w, v 3⟩, ⟨R2 16 w, v 4⟩, ⟨R2 16 w, v 5⟩, ⟨R2 16 w, v 6⟩, ⟨R2 16 w, v 7⟩] h.cat16

/-- A row in bf16, repeated 128 times. -/
def repeated (h : Width w) (r : FVec F (R2 1 w) .f32) : FVec F (R2 128 w) .bf16 :=
  stack h fun _ => truncf .bf16 (broadcastTo (R2 16 w) (same r) h.to16) bitsLt_bf16_f32

/-- The codes of a block of 128 rows. -/
def codes (h : Width w) (v : Fin 8 → FVec F (R2 16 w) .bf16) : FVec F (R2 128 w) .fp8e5m2 :=
  truncf .fp8e5m2 (minimumf (broadcast (R2 128 w) (Scalar.truncf .bf16 bitsLt_bf16_f32 (Scalar.ofBits .f32 0x47600000#32)))
    (maximumf (broadcast (R2 128 w) (Scalar.truncf .bf16 bitsLt_bf16_f32 (Scalar.ofBits .f32 0xC7600000#32)))
      (mulf (stack h fun k => same (v k)) (repeated h (inverse h v))))) bitsLt_fp8e5m2_bf16

/-- The codes times the scale. -/
def dequantised (h : Width w) (v : Fin 8 → FVec F (R2 16 w) .bf16) : FVec F (R2 128 w) .bf16 :=
  mulf (extf .bf16 (codes h v) bitsLt_fp8e5m2_bf16) (repeated h (scale h v))

/-- The accumulator's rows after one step: the earlier rows plus the product of the chunk's dequantised columns with
    the chunk's weights. -/
def update (h : Width w) (d : DotDims (R2 1024 w) (R2 1024 1280) (R2 w 1280)) (v : Fin 8 → Fin 8 → FVec F (R2 16 w) .bf16)
    (a : FVec F (R2 w 1280) .f32) (x : FVec F (R2 1024 1280) .bf16) : FVec F (R2 w 1280) .f32 :=
  same (addf a (matmul d none (concatenate (R2 1024 w) 0 [⟨R2 128 w, dequantised h (v 0)⟩, ⟨R2 128 w, dequantised h (v 1)⟩,
    ⟨R2 128 w, dequantised h (v 2)⟩, ⟨R2 128 w, dequantised h (v 3)⟩, ⟨R2 128 w, dequantised h (v 4)⟩, ⟨R2 128 w, dequantised h (v 5)⟩,
    ⟨R2 128 w, dequantised h (v 6)⟩, ⟨R2 128 w, dequantised h (v 7)⟩] h.cat128) x (constant (R2 w 1280) .f32 0x00000000#32)))

/-- A block of 128 rows of the weights' side: the codes times the bf16 scale of the block. -/
def weights (s : FVec F S1x1280 .f32) (x : FVec F S128x1280 .fp8e4m3) : FVec F S128x1280 .bf16 := k0_pay13 s x

end Cert.KernelIdeal.Tile

end
-- ==== Proof.Exponent.lean ====
/- Powers of two over the extended reals: the scale of a column as the reference's logarithm states it and as the
   kernel's count of powers gives it. -/
module

public import Idealize.ShloMosaic.PureOps.Ideal

@[expose] public section

noncomputable section

namespace Cert.Exponent

open Idealize.ShloMosaic

/-- The floor of the binary logarithm. -/
def lg (r : ℝ) : ℤ := ⌊Real.log r / Real.log 2⌋

/-- It is the greatest exponent whose power of two is not above the number. -/
theorem zpow_le_iff (r : ℝ) (hr : 0 < r) (x : ℤ) : (2 : ℝ) ^ x ≤ r ↔ x ≤ lg r := by
  have hl2 : 0 < Real.log 2 := Real.log_pos (by norm_num)
  unfold lg
  rw [Int.le_floor, le_div_iff₀ hl2, ← Real.log_zpow, Real.log_le_log_iff (by positivity) hr]

/-- The exponent of a column's scale: the binary logarithm's floor plus one, and zero below the normal range and at
    infinity. -/
def expo (y : EReal) : ℤ := if y < (((2 : ℝ) ^ (-126 : ℤ) : ℝ) : EReal) ∨ y = ⊤ then 0 else lg y.toReal + 1

/-- The scale of a column. -/
def scaleOf (y : EReal) : EReal := (((2 : ℝ) ^ expo y : ℝ) : EReal)

/-- The reciprocal of the scale. -/
def inverseOf (y : EReal) : EReal := (((2 : ℝ) ^ (-expo y) : ℝ) : EReal)

/-- The fields of a word that holds only an exponent. -/
theorem fields (k : Fin 256) : ((BitVec.ofNat 32 k.val <<< 23).extractLsb' 31 1 = 0#1) ∧
    ((BitVec.ofNat 32 k.val <<< 23).extractLsb' 23 8).toNat = k.val ∧ ((BitVec.ofNat 32 k.val <<< 23).extractLsb' 0 23).toNat = 0 := by
  revert k; decide +kernel

/-- A word at f32 is read by the format's fields. -/
theorem ofBits_eq (b : BitVec 32) : Ideal.ofBits .f32 b = Ideal.ieee 8 23 b := rfl

/-- A word with sign and significand zero is read by its exponent field. -/
theorem ieee_of (b : BitVec 32) (k : Nat) (ha : b.extractLsb' 31 1 = 0#1) (hb : (b.extractLsb' 23 8).toNat = k)
    (hc : (b.extractLsb' 0 23).toNat = 0) :
    Ideal.ieee 8 23 b = if k = 255 then ⊤ else if k = 0 then 0 else (((8388608 : ℝ) * (2 : ℝ) ^ ((k : ℤ) - 127 - 23) : ℝ) : EReal) := by
  unfold Ideal.ieee
  simp only [ha, hb, hc]
  norm_num

/-- 2^23 times 2^(z - 23) is 2^z. -/
theorem shifted (z : ℤ) : (8388608 : ℝ) * (2 : ℝ) ^ (z - 23) = (2 : ℝ) ^ z := by
  rw [zpow_sub₀ (by norm_num) _ 23]
  norm_num
  ring

/-- A word that holds only an exponent field between 1 and 254 denotes a power of two. -/
theorem ofBits_power (k : Nat) (h1 : 1 ≤ k) (h2 : k ≤ 254) :
    Ideal.ofBits .f32 (BitVec.ofNat 32 k <<< 23) = (((2 : ℝ) ^ ((k : ℤ) - 127) : ℝ) : EReal) := by
  have h255 : k ≠ 255 := by omega
  have h0 : k ≠ 0 := by omega
  have f := fields ⟨k, by omega⟩
  have e := ieee_of (BitVec.ofNat 32 k <<< 23) k f.1 f.2.1 f.2.2
  rw [if_neg h255, if_neg h0, shifted] at e
  exact e

/-- The word with the full exponent field denotes infinity. -/
theorem ofBits_top : Ideal.ofBits .f32 (BitVec.ofNat 32 255 <<< 23) = ⊤ := by
  obtain ⟨a, b, c⟩ := fields ⟨255, by omega⟩
  exact (ofBits_eq _).trans ((ieee_of _ 255 a b c).trans (if_pos rfl))

/-- How many of the powers `2^-126 … 2^128` are at most `y`. -/
def countOf (y : EReal) : Nat := (Finset.univ.filter fun k : Fin 255 => Ideal.ofBits .f32 (BitVec.ofNat 32 (k.val + 1) <<< 23) ≤ y).card

/-- Of the numbers 0 to 254, exactly `n` are below `n`. -/
theorem card_filter_le (n : Nat) (h : n ≤ 255) : (Finset.univ.filter fun k : Fin 255 => k.val < n).card = n := by
  rw [Fin.card_filter_val_lt]; omega

/-- The count at infinity. -/
theorem countOf_top : countOf ⊤ = 255 := by
  unfold countOf
  rw [Finset.filter_true_of_mem (fun _ _ => le_top)]
  simp

/-- The count below the normal range. -/
theorem countOf_small (y : EReal) (h : y < (((2 : ℝ) ^ (-126 : ℤ) : ℝ) : EReal)) : countOf y = 0 := by
  unfold countOf
  rw [Finset.card_eq_zero, Finset.filter_eq_empty_iff]
  intro k _ hk
  have h1 := lt_of_le_of_lt hk h
  by_cases hk' : k.val + 1 ≤ 254
  · rw [ofBits_power _ (by omega) hk'] at h1
    have h2 := EReal.coe_lt_coe_iff.mp h1
    have := (zpow_lt_zpow_iff_right₀ (by norm_num : (1 : ℝ) < 2)).mp h2
    push_cast at this
    omega
  · rw [show k.val + 1 = 255 by omega, ofBits_top] at h1
    exact absurd h1 (not_lt.mpr le_top)

/-- The count in the normal range is the biased exponent. -/
theorem countOf_normal (r : ℝ) (h1 : (2 : ℝ) ^ (-126 : ℤ) ≤ r) (h2 : r < (2 : ℝ) ^ (127 : ℤ)) :
    -126 ≤ lg r ∧ lg r ≤ 126 ∧ countOf (r : EReal) = (lg r + 127).toNat := by
  have hr : 0 < r := lt_of_lt_of_le (by positivity) h1
  have iff := zpow_le_iff r hr
  have hl : -126 ≤ lg r := (iff _).mp h1
  have hu : lg r ≤ 126 := by
    by_contra hc
    exact absurd ((iff 127).mpr (by omega)) (not_le.mpr h2)
  refine ⟨hl, hu, ?_⟩
  rw [← card_filter_le (lg r + 127).toNat (by omega)]
  unfold countOf
  congr 1
  refine Finset.filter_congr fun k _ => ?_
  by_cases hk : k.val + 1 ≤ 254
  · rw [ofBits_power _ (by omega) hk, EReal.coe_le_coe_iff, iff]
    push_cast
    omega
  · rw [show k.val + 1 = 255 by omega, ofBits_top]
    constructor
    · intro h; exact absurd (top_le_iff.mp h) (EReal.coe_ne_top r)
    · intro h; omega

/-- The exponent field the kernel goes on with. -/
def fieldOf (n : BitVec 32) : BitVec 32 := if n = 0#32 ∨ n = 255#32 then 126#32 else n

/-- The columns' values in range: none negative, and each below `2^126` or infinite. -/
def InRange (y : EReal) : Prop := 0 ≤ y ∧ (y < (((2 : ℝ) ^ (126 : ℤ) : ℝ) : EReal) ∨ y = ⊤)

/-- The field is the biased exponent less one. -/
theorem fieldOf_count (y : EReal) (hy : InRange y) :
    -125 ≤ expo y ∧ expo y ≤ 126 ∧ fieldOf (BitVec.ofNat 32 (countOf y)) = BitVec.ofNat 32 (expo y + 126).toNat := by
  by_cases hs : y < (((2 : ℝ) ^ (-126 : ℤ) : ℝ) : EReal)
  · rw [countOf_small y hs, show expo y = 0 by unfold expo; rw [if_pos (Or.inl hs)]]
    decide
  by_cases ht : y = ⊤
  · rw [show expo y = 0 by unfold expo; rw [if_pos (Or.inr ht)], ht, countOf_top]
    decide
  obtain ⟨h0, h1 | h1⟩ := hy
  swap
  · exact absurd h1 ht
  lift y to ℝ using ⟨ht, fun hb => by subst hb; exact absurd h0 (by simp)⟩
  have h1' := EReal.coe_lt_coe_iff.mp h1
  have hs' := EReal.coe_le_coe_iff.mp (not_lt.mp hs)
  obtain ⟨a, b, e⟩ := countOf_normal y hs' (lt_trans h1' (by norm_num))
  have b' : lg y ≤ 125 := by
    by_contra hc
    have hr : 0 < y := lt_of_lt_of_le (by positivity) hs'
    exact absurd h1' (not_lt.mpr ((zpow_le_iff y hr 126).mpr (by omega)))
  have hx : expo (y : EReal) = lg y + 1 := by
    unfold expo
    rw [if_neg (by push Not; exact ⟨not_lt.mp hs, ht⟩), EReal.toReal_coe]
  rw [hx, e]
  refine ⟨by omega, by omega, ?_⟩
  unfold fieldOf
  rw [if_neg, show (lg y + 1 + 126).toNat = (lg y + 127).toNat by omega]
  rintro (h | h) <;> (have := congrArg BitVec.toNat h; simp only [BitVec.toNat_ofNat] at this; omega)

/-- The scale put together from the field. -/
theorem scale_bits (y : EReal) (hy : InRange y) :
    Ideal.ofBits .f32 ((fieldOf (BitVec.ofNat 32 (countOf y)) + 1#32) <<< 23) = scaleOf y := by
  obtain ⟨a, b, e⟩ := fieldOf_count y hy
  rw [e, show BitVec.ofNat 32 (expo y + 126).toNat + 1#32 = BitVec.ofNat 32 (expo y + 127).toNat by
    rw [show (expo y + 127).toNat = (expo y + 126).toNat + 1 by omega, BitVec.ofNat_add], ofBits_power _ (by omega) (by omega)]
  unfold scaleOf
  congr 2
  omega

/-- The reciprocal put together from the field. -/
theorem inverse_bits (y : EReal) (hy : InRange y) :
    Ideal.ofBits .f32 ((253#32 - fieldOf (BitVec.ofNat 32 (countOf y))) <<< 23) = inverseOf y := by
  obtain ⟨a, b, e⟩ := fieldOf_count y hy
  rw [e, show 253#32 - BitVec.ofNat 32 (expo y + 126).toNat = BitVec.ofNat 32 (127 - expo y).toNat by
    apply BitVec.eq_of_toNat_eq
    simp only [BitVec.toNat_sub, BitVec.toNat_ofNat]
    omega, ofBits_power _ (by omega) (by omega)]
  unfold inverseOf
  congr 2
  omega

/-- The value of the reference's exponent. -/
theorem reference_expo (y : EReal) (hy : InRange y) :
    (if y < (((2 : ℝ) ^ (-126 : ℤ) : ℝ) : EReal) ∨ y = ⊤ then (0 : EReal)
      else Ideal.liftRound Int.floor (Ideal.div (Ideal.log y) (Ideal.log (((2 : ℝ) : ℝ) : EReal))) + ((1 : ℝ) : EReal)) = ((expo y : ℝ) : EReal) := by
  unfold expo
  split_ifs with h
  · simp
  · push Not at h
    obtain ⟨h0, h1⟩ := hy
    lift y to ℝ using ⟨h.2, fun hb => by subst hb; exact absurd h0 (by simp)⟩
    have hs' := EReal.coe_le_coe_iff.mp h.1
    have hr : 0 < y := lt_of_lt_of_le (by positivity) hs'
    have hl2 : Real.log 2 ≠ 0 := (Real.log_pos (by norm_num)).ne'
    have e1 : Ideal.log (y : EReal) = ((Real.log y : ℝ) : EReal) := by
      show (if y ≤ 0 then (⊥ : EReal) else (Real.log y : EReal)) = _
      rw [if_neg (not_le.mpr hr)]
    have e2 : Ideal.log ((2 : ℝ) : EReal) = ((Real.log 2 : ℝ) : EReal) := by
      show (if (2 : ℝ) ≤ 0 then (⊥ : EReal) else (Real.log 2 : EReal)) = _
      rw [if_neg (by norm_num)]
    rw [e1, e2]
    unfold Ideal.div
    rw [if_neg (by simpa using hl2), ← EReal.coe_inv, ← EReal.coe_mul, ← div_eq_mul_inv]
    show ((⌊Real.log y / Real.log 2⌋ : ℝ) : EReal) + _ = _
    rw [EReal.toReal_coe]
    unfold lg
    push_cast
    rfl

/-- Two to the reference's exponent. -/
theorem exp2_int (z : ℤ) : Ideal.exp2 (((z : ℝ)) : EReal) = (((2 : ℝ) ^ z : ℝ) : EReal) := by
  show ((Real.rpow 2 (z : ℝ) : ℝ) : EReal) = _
  congr 1
  exact Real.rpow_intCast 2 z

end Cert.Exponent

end
-- ==== Proof.TileValue.lean ====
/- The per-tile computation read at an index over the extended reals. -/
module

public import proofs.«01_k».proof.Proof.Tile
public import proofs.«01_k».proof.Proof.Exponent
public import Idealize.ShloMosaic.Lib.Pointwise
public import Idealize.ShloMosaic.Lib.Pipeline.Value
public import Idealize.ShloMosaic.Lib.ValueLayout
public import Idealize.ShloMosaic.PureOps.Ideal.Laws

@[expose] public section

noncomputable section

namespace Cert.KernelIdeal.Tile

open Idealize.ShloMosaic Idealize.SL.Sem Cert.KernelIdeal Cert.KernelIdeal.Gen Cert.Exponent

variable {w : Nat}

/-- The magnitude. -/
def mag (x : EReal) : EReal := max x (-x)

/-- The greatest magnitude of 128 numbers divided by the format's greatest value. -/
def level (f : Fin 128 → EReal) : EReal := (Finset.univ.sup fun r => mag (f r)) * Ideal.ofBits .f32 0x37924925#32

/-- A number rounded into the format's range. -/
def clamp (x : EReal) : EReal := min (Ideal.ofBits .f32 0x47600000#32) (max (Ideal.ofBits .f32 0xC7600000#32) x)

/-- The code of one number, given its block's 128 numbers. -/
def codeOf (f : Fin 128 → EReal) (x : EReal) : EReal := clamp (x * inverseOf (level f))

/-- The code times the scale. -/
def dequantOf (f : Fin 128 → EReal) (x : EReal) : EReal := codeOf f x * scaleOf (level f)

/-- Row `r`, column `c` of eight slices of sixteen rows. -/
def at128 (v : Fin 8 → FVec Ideal (R2 16 w) .bf16) (c : Fin w) (r : Fin 128) : EReal :=
  v ⟨r.val / 16, by omega⟩ (ix2 ⟨r.val % 16, Nat.mod_lt _ (by norm_num)⟩ c)

/-- A cast to the same shape changes nothing. -/
theorem same_apply {s : Shape} {α : Type} (v : s.Idx → α) : same v = v := by
  funext i
  show v (Shape.reshapeEquiv _ i) = v i
  rw [Shape.reshapeEquiv_self]

/-- A single row's index matches the vector's. -/
theorem reshape_row (h : (R2 1 w).numel = (R1 w).numel) (i : Fin w) :
    Shape.reshapeEquiv h (ix2 (0 : Fin 1) i) = ix1 i :=
  Shape.reshapeEquiv_eq_of_rowMajor h (by
    rw [Shape.rowMajor_val_one, Shape.rowMajor_val_two]
    show i.val = 0 * w + i.val
    omega)

/-- The greatest magnitude of the 128 rows, slice by slice. -/
theorem sup_rows (v : Fin 8 → FVec Ideal (R2 16 w) .bf16) (c : Fin w) :
    (Finset.univ.sup fun x : Fin 16 => rowMax v (ix2 x c)) = Finset.univ.sup fun r => mag (at128 v c r) := by
  have hr (x : Fin 16) : rowMax v (ix2 x c) = Finset.univ.sup fun k : Fin 8 => mag (v k (ix2 x c)) := by
    simp only [rowMax, same_apply]
    apply le_antisymm
    · have h (k : Fin 8) : mag (v k (ix2 x c)) ≤ Finset.univ.sup fun k : Fin 8 => mag (v k (ix2 x c)) :=
        Finset.le_sup (f := fun k : Fin 8 => mag (v k (ix2 x c))) (Finset.mem_univ k)
      exact max_le (max_le (max_le (max_le (max_le (max_le (max_le (h 0) (h 1)) (h 2)) (h 3)) (h 4)) (h 5)) (h 6)) (h 7)
    · refine Finset.sup_le fun k _ => ?_
      show mag (v k (ix2 x c)) ≤ max (max (max (max (max (max (max (mag (v 0 (ix2 x c))) (mag (v 1 (ix2 x c)))) (mag (v 2 (ix2 x c))))
        (mag (v 3 (ix2 x c)))) (mag (v 4 (ix2 x c)))) (mag (v 5 (ix2 x c)))) (mag (v 6 (ix2 x c)))) (mag (v 7 (ix2 x c)))
      fin_cases k <;> simp [le_max_iff]
  apply le_antisymm
  · refine Finset.sup_le fun x _ => ?_
    rw [hr]
    refine Finset.sup_le fun k _ => ?_
    have := Finset.le_sup (f := fun r => mag (at128 v c r)) (Finset.mem_univ (⟨16 * k.val + x.val, by omega⟩ : Fin 128))
    refine le_trans (le_of_eq ?_) this
    simp only [at128]
    congr 3
    · ext; simp; omega
    · congr 1; ext; simp; omega
  · refine Finset.sup_le fun r _ => ?_
    refine le_trans ?_ (Finset.le_sup (f := fun x : Fin 16 => rowMax v (ix2 x c)) (Finset.mem_univ (⟨r.val % 16, Nat.mod_lt _ (by norm_num)⟩ : Fin 16)))
    simp only [hr]
    exact Finset.le_sup (f := fun k : Fin 8 => mag (v k (ix2 ⟨r.val % 16, Nat.mod_lt _ (by norm_num)⟩ c))) (Finset.mem_univ (⟨r.val / 16, by omega⟩ : Fin 8))

/-- The word of minus infinity. -/
theorem ofBits_bot : Ideal.ofBits .f32 0xFF800000#32 = ⊥ := by
  show Ideal.ieee 8 23 (0xFF800000#32) = ⊥
  unfold Ideal.ieee
  rw [if_pos (by decide), if_pos (by decide), if_pos (by decide)]

/-- The column's level. -/
theorem normal_apply (h : Width w) (v : Fin 8 → FVec Ideal (R2 16 w) .bf16) (c : Fin w) :
    normal h v (ix2 0 c) = level (at128 v c) := by
  pointwise [normal]
  rw [reshape_row, ofBits_bot]
  unfold level
  rw [← sup_rows]
  rfl

/-- Adding ones counts. -/
theorem fold_count {n : Nat} (p : Fin n → Prop) [DecidablePred p] (s : Finset (Fin n)) :
    Finset.fold IntOp.addi (0#32) (fun x => BitVec.setWidth 32 (BitVec.ofBool (decide (p x)))) s = BitVec.ofNat 32 (s.filter p).card := by
  classical
  induction s using Finset.induction_on with
  | empty => simp
  | insert a s ha ih =>
    rw [Finset.fold_insert ha, ih, Finset.filter_insert]
    by_cases hp : p a
    · rw [if_pos hp, Finset.card_insert_of_notMem (by simp [ha])]
      simp only [hp, decide_true, IntOp.addi, BitVec.ofNat_add]
      rw [BitVec.add_comm]; rfl
    · rw [if_neg hp]
      simp only [hp, decide_false, IntOp.addi]
      exact BitVec.zero_add _

/-- The number of powers at most a column's values, row by row. -/
theorem count_rows (h : Width w) (z : FVec Ideal (R2 255 w) .f32) (c : Fin w) :
    shapeCast (R2 1 w) (multiReductionI .add [0] (R1 w) (extui 32 (cmpf .oge z (powers h)) natLt_1_32) 0#32 h.red255 rfl) h.up (ix2 0 c)
      = BitVec.ofNat 32 (Finset.univ.filter fun k : Fin 255 => Ideal.ofBits .f32 (BitVec.ofNat 32 (k.val + 1) <<< 23) ≤ z (ix2 k c)).card := by
  pointwise [powers]
  refine (fold_count (fun x : Fin 255 => Ideal.ofBits .f32 (IntOp.shli .vector (IntOp.addi (BitVec.ofNat 32 x.val) 1#32) 23#32)
    ≤ z (ix2 x (Shape.reshapeEquiv h.up (ix2 0 c) 0))) Finset.univ).trans ?_
  refine congrArg (fun S => BitVec.ofNat 32 (Finset.card S)) (Finset.filter_congr fun x _ => ?_)
  have e : IntOp.shli .vector (IntOp.addi (BitVec.ofNat 32 x.val) 1#32) 23#32 = BitVec.ofNat 32 (x.val + 1) <<< 23 := by
    rw [BitVec.ofNat_add]; rfl
  rw [e, reshape_row]
  exact Iff.rfl

/-- The number of powers at most a column's value. -/
theorem count_apply (h : Width w) (y : FVec Ideal (R2 1 w) .f32) (c : Fin w) :
    count h y (ix2 0 c) = BitVec.ofNat 32 (countOf (mag (y (ix2 0 c)))) := by
  refine (count_rows h _ c).trans ?_
  have e (k : Fin 255) : broadcastTo (R2 255 w) (absf y) h.to255 (ix2 k c) = mag (y (ix2 0 c)) := ValueIdx.broadcastTo_1b_ab_apply _ _ _ _
  exact congrArg (fun S => BitVec.ofNat 32 (Finset.card S)) (Finset.filter_congr fun k _ => by rw [e])

/-- The kernel's exponent field. -/
theorem field_apply (h : Width w) (v : Fin 8 → FVec Ideal (R2 16 w) .bf16) (c : Fin w) :
    field h v (ix2 0 c) = fieldOf (BitVec.ofNat 32 (countOf (mag (level (at128 v c))))) := by
  rw [← normal_apply h v c, ← count_apply h]
  show Scalar.select (IntOp.ori (IntOp.cmpi CmpIPredicate.eq (count h (normal h v) (ix2 0 c)) 0#32)
      (IntOp.cmpi CmpIPredicate.eq (count h (normal h v) (ix2 0 c)) 255#32)) (126#32) (count h (normal h v) (ix2 0 c)) = _
  generalize count h (normal h v) (ix2 0 c) = n
  unfold fieldOf
  by_cases h0 : n = 0#32
  · subst h0; rfl
  by_cases h1 : n = 255#32
  · subst h1; rfl
  rw [if_neg (by simp [h0, h1])]
  have e0 : (n == 0#32) = false := by simp [h0]
  have e1 : (n == 255#32) = false := by simp [h1]
  simp [Scalar.select, IntOp.ori, IntOp.cmpi, e0, e1]

/-- A nonnegative number is its own magnitude. -/
theorem mag_of_nonneg {y : EReal} (h : 0 ≤ y) : mag y = y :=
  max_eq_left (le_trans (EReal.neg_le_neg_iff.2 h) (by simpa using h))

/-- The scale of a column. -/
theorem scale_apply (h : Width w) (v : Fin 8 → FVec Ideal (R2 16 w) .bf16) (c : Fin w) (hy : InRange (level (at128 v c))) :
    scale h v (ix2 0 c) = scaleOf (level (at128 v c)) := by
  rw [← scale_bits _ hy]
  show Ideal.ofBits .f32 (IntOp.shli .vector (IntOp.addi (field h v (ix2 0 c)) 1#32) 23#32) = _
  rw [field_apply, mag_of_nonneg hy.1]
  rfl

/-- The reciprocal of a column's scale. -/
theorem inverse_apply (h : Width w) (v : Fin 8 → FVec Ideal (R2 16 w) .bf16) (c : Fin w) (hy : InRange (level (at128 v c))) :
    inverse h v (ix2 0 c) = inverseOf (level (at128 v c)) := by
  rw [← inverse_bits _ hy]
  show Ideal.ofBits .f32 (IntOp.shli .vector (IntOp.subi 253#32 (field h v (ix2 0 c))) 23#32) = _
  rw [field_apply, mag_of_nonneg hy.1]
  rfl

/-- Row `r` of the eight stacked slices. -/
theorem stack_apply (h : Width w) (v : Fin 8 → FVec Ideal (R2 16 w) .bf16) (r : Fin 128) (c : Fin w) :
    stack h v (ix2 r c) = at128 v c r :=
  concatenate_ofFn_apply (t := R2 128 w) (s₁ := R2 16 w) (0 : Fin 2) v h.cat16 rfl 16 rfl (ix2 r c) ⟨r.val / 16, by omega⟩ rfl
    (ix2 ⟨r.val % 16, Nat.mod_lt _ (by norm_num)⟩ c) rfl
    (by intro b hb; fin_cases b; exacts [absurd rfl hb, rfl])

/-- A repeated row holds the row at every height. -/
theorem repeated_apply (h : Width w) (y : FVec Ideal (R2 1 w) .f32) (r : Fin 128) (c : Fin w) :
    repeated h y (ix2 r c) = y (ix2 0 c) := by
  unfold repeated
  rw [stack_apply]
  show broadcastTo (R2 16 w) (same y) h.to16 (ix2 _ c) = _
  rw [same_apply]
  exact ValueIdx.broadcastTo_1b_ab_apply _ _ _ _

/-- The codes of a block. -/
theorem codes_apply (h : Width w) (v : Fin 8 → FVec Ideal (R2 16 w) .bf16) (r : Fin 128) (c : Fin w) (hy : InRange (level (at128 v c))) :
    codes h v (ix2 r c) = codeOf (at128 v c) (at128 v c r) := by
  show clamp (stack h (fun k => same (v k)) (ix2 r c) * repeated h (inverse h v) (ix2 r c)) = _
  rw [stack_apply, repeated_apply, inverse_apply h v c hy]
  simp only [same_apply]
  rfl

/-- The dequantised rows of a block. -/
theorem dequantised_apply (h : Width w) (v : Fin 8 → FVec Ideal (R2 16 w) .bf16) (r : Fin 128) (c : Fin w) (hy : InRange (level (at128 v c))) :
    dequantised h v (ix2 r c) = dequantOf (at128 v c) (at128 v c r) := by
  show codes h v (ix2 r c) * repeated h (scale h v) (ix2 r c) = _
  rw [codes_apply h v r c hy, repeated_apply, scale_apply h v c hy]
  rfl

/-- The product's dimension numbers contract the rows of both operands. -/
def RowsDot (d : DotDims (R2 1024 w) (R2 1024 1280) (R2 w 1280)) : Prop :=
  ∀ (l : (R2 1024 w).Idx → EReal) (r : (R2 1024 1280).Idx → EReal) (a : (R2 w 1280).Idx → EReal) (o : Fin w) (i : Fin 1280),
    Ideal.matmul d l r a (ix2 o i) = a (ix2 o i) + ∑ k : Fin 1024, l (ix2 k o) * r (ix2 k i)

/-- One entry of the accumulator after a step. -/
theorem update_apply (h : Width w) (d : DotDims (R2 1024 w) (R2 1024 1280) (R2 w 1280)) (hd : RowsDot d)
    (v : Fin 8 → Fin 8 → FVec Ideal (R2 16 w) .bf16) (a : FVec Ideal (R2 w 1280) .f32) (x : FVec Ideal (R2 1024 1280) .bf16)
    (o : Fin w) (i : Fin 1280) (hy : ∀ b, InRange (level (at128 (v b) o))) :
    update h d v a x (ix2 o i) = a (ix2 o i) + ∑ k : Fin 1024,
      dequantOf (at128 (v ⟨k.val / 128, by omega⟩) o) (at128 (v ⟨k.val / 128, by omega⟩) o ⟨k.val % 128, Nat.mod_lt _ (by norm_num)⟩) * x (ix2 k i) := by
  have hc (k : Fin 1024) := concatenate_ofFn_apply (t := R2 1024 w) (s₁ := R2 128 w) (0 : Fin 2) (fun b => dequantised h (v b)) h.cat128 rfl 128 rfl
    (ix2 k o) ⟨k.val / 128, by omega⟩ rfl (ix2 ⟨k.val % 128, Nat.mod_lt _ (by norm_num)⟩ o) rfl
    (by intro b hb; fin_cases b; exacts [absurd rfl hb, rfl])
  unfold update
  rw [same_apply]
  refine congrArg (a (ix2 o i) + ·) ((hd _ _ _ o i).trans ?_)
  have z : (constant (F := Ideal) (R2 w 1280) .f32 0x00000000#32) (ix2 o i) = 0 := Ideal.ofBits_zero_f32
  rw [z, zero_add]
  refine Finset.sum_congr rfl fun k _ => congrArg (· * x (ix2 k i)) ((hc k).trans ?_)
  exact dequantised_apply h _ _ o (hy _)

/-- The product of a wide tile contracts the rows. -/
theorem rowsDot256 : RowsDot dot_S1024x256_S1024x1280_S256x1280_0_0_1_1_n_n := by
  intro l r a o i
  refine Ideal.matmul_apply₁_of (K := 1024) _ rfl rfl _ _ _ _ (fun k => ix2 k o) (fun k => ix2 k i) ?_ ?_ <;> intro k <;> funext b <;> fin_cases b <;> rfl

/-- The product of the last tile contracts the rows. -/
theorem rowsDot128 : RowsDot dot_S1024x128_S1024x1280_S128x1280_0_0_1_1_n_n := by
  intro l r a o i
  refine Ideal.matmul_apply₁_of (K := 1024) _ rfl rfl _ _ _ _ (fun k => ix2 k o) (fun k => ix2 k i) ?_ ?_ <;> intro k <;> funext b <;> fin_cases b <;> rfl

/-- A block of weights: the codes times the block's scale. -/
theorem weights_apply (s : FVec Ideal S1x1280 .f32) (x : FVec Ideal S128x1280 .fp8e4m3) (r : Fin 128) (i : Fin 1280) :
    weights s x (ix2 r i) = x (ix2 r i) * s (ix2 0 i) := by
  have hc := concatenate_ofFn_apply (t := S128x1280) (s₁ := S16x1280) (0 : Fin 2)
    (fun _ : Fin 8 => (broadcastTo S16x1280 (same (same s)) broadcasts_S1x1280_S16x1280 : S16x1280.Idx → EReal))
    concatenates_S16x1280_S16x1280_S16x1280_S16x1280_S16x1280_S16x1280_S16x1280_S16x1280_S128x1280_d0 rfl 16 rfl
    (ix2 r i) ⟨r.val / 16, by omega⟩ rfl (ix2 ⟨r.val % 16, Nat.mod_lt _ (by norm_num)⟩ i) rfl
    (by intro b hb; fin_cases b; exacts [absurd rfl hb, rfl])
  have hb : broadcastTo S16x1280 (same (same s)) broadcasts_S1x1280_S16x1280 (ix2 ⟨r.val % 16, Nat.mod_lt _ (by norm_num)⟩ i) = s (ix2 0 i) := by
    rw [same_apply, same_apply]; exact ValueIdx.broadcastTo_1b_ab_apply _ _ _ _
  have hx : (shapeCast S128x1280 x shapeCasts_S128x1280_S128x1280) (ix2 r i) = x (ix2 r i) := congrFun (same_apply x) _
  rw [← hb, ← hc, ← hx]
  have ht (v : FVec Ideal S128x1280 .bf16) : shapeCast S128x1280 v shapeCasts_S128x1280_S128x1280 = v := same_apply v
  unfold weights k0_pay13
  exact congrFun (ht _) (ix2 r i)

end Cert.KernelIdeal.Tile

end
-- ==== Proof.Spec.lean ====
/- What the three results are, on whole arrays over the extended reals. -/
module

public import proofs.«01_k».proof.Proof.TileValue

@[expose] public section

noncomputable section

namespace Cert.Spec

open Idealize.ShloMosaic Cert.Exponent Cert.KernelIdeal.Tile

/-- Column `o` of block `B` of 128 rows. -/
def col (D : (R2 262144 1408).Idx → EReal) (B : Fin 2048) (o : Fin 1408) (r : Fin 128) : EReal := D (ix2 ⟨128 * B.val + r.val, by omega⟩ o)

/-- The block of a row. -/
abbrev blockOf (T : Fin 262144) : Fin 2048 := ⟨T.val / 128, by omega⟩

/-- Every column of every block has a scale. -/
def Fits (D : (R2 262144 1408).Idx → EReal) : Prop := ∀ B o, InRange (level (col D B o))

/-- The codes. -/
def codes (D : (R2 262144 1408).Idx → EReal) : (R2 262144 1408).Idx → EReal := fun y => codeOf (col D (blockOf (y 0)) (y 1)) (D y)

/-- The scales. -/
def scales (D : (R2 262144 1408).Idx → EReal) : (R2 2048 1408).Idx → EReal := fun y => scaleOf (level (col D (y 0) (y 1)))

/-- One row's share of an entry of the weight gradient: the dequantised input times the dequantised output gradient. -/
def term (X : (R2 262144 1280).Idx → EReal) (S : (R2 2048 1280).Idx → EReal) (D : (R2 262144 1408).Idx → EReal) (i : Fin 1280) (o : Fin 1408)
    (T : Fin 262144) : EReal := (X (ix2 T i) * S (ix2 (blockOf T) i)) * dequantOf (col D (blockOf T) o) (D (ix2 T o))

/-- The accumulated gradient: the earlier one plus the weight gradient. -/
def out (X : (R2 262144 1280).Idx → EReal) (S : (R2 2048 1280).Idx → EReal) (D : (R2 262144 1408).Idx → EReal) (M : (R2 1280 1408).Idx → EReal) :
    (R2 1280 1408).Idx → EReal := fun y => M y + ∑ T : Fin 262144, term X S D (y 0) (y 1) T

/-- The word of the greatest finite bfloat16. -/
theorem ofBits_bf16_max : Ideal.ofBits .f32 0x7F7F0000#32 = (((16711680 : ℝ) * (2 : ℝ) ^ (104 : ℤ) : ℝ) : EReal) := by
  show Ideal.ieee 8 23 (0x7F7F0000#32) = _
  have a : (0x7F7F0000#32).extractLsb' 31 1 = 0#1 := by decide
  have b : ((0x7F7F0000#32).extractLsb' 23 8).toNat = 254 := by decide
  have c : ((0x7F7F0000#32).extractLsb' 0 23).toNat = 8323072 := by decide
  unfold Ideal.ieee
  simp only [a, b, c]
  norm_num

/-- The word of the format's reciprocal greatest value. -/
theorem ofBits_step : Ideal.ofBits .f32 0x37924925#32 = (((9586981 : ℝ) * (2 : ℝ) ^ (-39 : ℤ) : ℝ) : EReal) := by
  show Ideal.ieee 8 23 (0x37924925#32) = _
  have a : (0x37924925#32).extractLsb' 31 1 = 0#1 := by decide
  have b : ((0x37924925#32).extractLsb' 23 8).toNat = 111 := by decide
  have c : ((0x37924925#32).extractLsb' 0 23).toNat = 1198373 := by decide
  unfold Ideal.ieee
  simp only [a, b, c]
  norm_num

/-- Magnitudes are not negative. -/
theorem mag_nonneg (x : EReal) : 0 ≤ mag x := by
  unfold mag
  rcases le_total 0 x with h | h
  · exact le_max_of_le_left h
  · exact le_max_of_le_right (by simpa using EReal.neg_le_neg_iff.2 h)

/-- Numbers that bfloat16 holds, finite or infinite, have a level in range. -/
theorem inRange_level (f : Fin 128 → EReal) (h : ∀ r, mag (f r) ≤ Ideal.ofBits .f32 0x7F7F0000#32 ∨ mag (f r) = ⊤) : InRange (level f) := by
  obtain ⟨r, _, hr⟩ := Finset.exists_mem_eq_sup Finset.univ ⟨(0 : Fin 128), Finset.mem_univ _⟩ (fun r => mag (f r))
  unfold level
  rw [hr, ofBits_step]
  have hpos : (0 : ℝ) < (9586981 : ℝ) * (2 : ℝ) ^ (-39 : ℤ) := by positivity
  refine ⟨mul_nonneg (mag_nonneg _) (by exact_mod_cast hpos.le), ?_⟩
  rcases h r with hb | ht
  · left
    rw [ofBits_bf16_max] at hb
    refine lt_of_le_of_lt (mul_le_mul_of_nonneg_right hb (by exact_mod_cast hpos.le)) ?_
    rw [← EReal.coe_mul, EReal.coe_lt_coe_iff]
    norm_num
  · right
    rw [ht]
    exact EReal.top_mul_coe_of_pos hpos

end Cert.Spec

end
-- ==== Proof.Stores.lean ====
/- What one grid step stores, as families over the tiles: the codes, the scales, the accumulator and the result. -/
module

public import proofs.«01_k».proof.Proof.Tile
public import proofs.«01_k».proof.Proof.Gen.KernelIdeal.Frame
public import Idealize.ShloMosaic.Lib.Pipeline.ValueKit
public import Idealize.ShloMosaic.Lib.Pipeline.ReadBack

@[expose] public section

noncomputable section

namespace Cert.KernelIdeal.Tile

open Idealize.ShloMosaic Idealize.SL.Sem Cert.KernelIdeal Cert.KernelIdeal.Gen

variable {F : FTy → Type} [FloatOps F]

/-- A slice of 16 rows of a wide tile lies in the chunk. -/
theorem inbWide {b j k : Nat} (hb : b < 8) (hj : j < 5) (hk : k < 8) :
    ∀ a : Fin 2, (![128 * b + 16 * k, 256 * j] : Fin 2 → Nat) a + (![16, 256] : Fin 2 → Nat) a ≤ (![1024, 1408] : Fin 2 → Nat) a := by
  intro a; fin_cases a <;> simp <;> omega

/-- A slice of 16 rows of the last tile lies in the chunk. -/
theorem inbNarrow {b k : Nat} (hb : b < 8) (hk : k < 8) :
    ∀ a : Fin 2, (![128 * b + 16 * k, 1280] : Fin 2 → Nat) a + (![16, 128] : Fin 2 → Nat) a ≤ (![1024, 1408] : Fin 2 → Nat) a := by
  intro a; fin_cases a <;> simp <;> omega

/-- The eight slices of sixteen rows of block `b`, column tile `j` of width 256. -/
def rowsWide (x : Vec F S1024x1408 .bf16) (b : Fin 8) (j : Fin 5) (k : Fin 8) : FVec F (R2 16 256) .bf16 :=
  View.ld x (Rect.unit (s := S1024x1408) ![128 * b.val + 16 * k.val, 256 * j.val] ![16, 256] (inbWide b.isLt j.isLt k.isLt))

/-- The eight slices of sixteen rows of block `b`, in the last 128 columns. -/
def rowsNarrow (x : Vec F S1024x1408 .bf16) (b k : Fin 8) : FVec F (R2 16 128) .bf16 :=
  View.ld x (Rect.unit (s := S1024x1408) ![128 * b.val + 16 * k.val, 1280] ![16, 128] (inbNarrow b.isLt k.isLt))

/-- A wide tile of codes lies in the chunk. -/
theorem inbCodesWide {b j : Nat} (hb : b < 8) (hj : j < 5) :
    ∀ a : Fin 2, (![128 * b, 256 * j] : Fin 2 → Nat) a + (![128, 256] : Fin 2 → Nat) a ≤ (![1024, 1408] : Fin 2 → Nat) a := by
  intro a; fin_cases a <;> simp <;> omega

/-- The last tile of codes lies in the chunk. -/
theorem inbCodesNarrow {b : Nat} (hb : b < 8) :
    ∀ a : Fin 2, (![128 * b, 1280] : Fin 2 → Nat) a + (![128, 128] : Fin 2 → Nat) a ≤ (![1024, 1408] : Fin 2 → Nat) a := by
  intro a; fin_cases a <;> simp <;> omega

/-- The store of one wide tile's codes. -/
def codesWide (x : Vec F S1024x1408 .bf16) (j : Fin 5) (b : Fin 8) : View.Piece (Elt F) S1024x1408 .fp8e5m2 :=
  ⟨Rect.unit (s := S1024x1408) ![128 * b.val, 256 * j.val] ![128, 256] (inbCodesWide b.isLt j.isLt), codes width256 (rowsWide x b j)⟩

/-- The store of one narrow tile's codes. -/
def codesNarrow (x : Vec F S1024x1408 .bf16) (b : Fin 8) : View.Piece (Elt F) S1024x1408 .fp8e5m2 :=
  ⟨Rect.unit (s := S1024x1408) ![128 * b.val, 1280] ![128, 128] (inbCodesNarrow b.isLt), codes width128 (rowsNarrow x b)⟩

/-- The eight blocks, last first. -/
def blocks : List (Fin 8) := [7, 6, 5, 4, 3, 2, 1, 0]

/-- The stores of the codes, last first. -/
def codesStores (x : Vec F S1024x1408 .bf16) : List (View.Piece (Elt F) S1024x1408 .fp8e5m2) :=
  blocks.map (codesNarrow x) ++ (blocks.map (codesWide x 4) ++ (blocks.map (codesWide x 3) ++ (blocks.map (codesWide x 2) ++
    (blocks.map (codesWide x 1) ++ blocks.map (codesWide x 0)))))

/-- A wide row of scales lies in its window. -/
theorem inbScaleWide {b j : Nat} (hb : b < 8) (hj : j < 5) :
    ∀ a : Fin 2, (![b, 256 * j] : Fin 2 → Nat) a + (![1, 256] : Fin 2 → Nat) a ≤ (![8, 1408] : Fin 2 → Nat) a := by
  intro a; fin_cases a <;> simp <;> omega

/-- The last row of scales lies in its window. -/
theorem inbScaleNarrow {b : Nat} (hb : b < 8) :
    ∀ a : Fin 2, (![b, 1280] : Fin 2 → Nat) a + (![1, 128] : Fin 2 → Nat) a ≤ (![8, 1408] : Fin 2 → Nat) a := by
  intro a; fin_cases a <;> simp <;> omega

/-- The store of one wide tile's scales. -/
def scaleWide (x : Vec F S1024x1408 .bf16) (j : Fin 5) (b : Fin 8) : View.Piece (Elt F) S8x1408 .f32 :=
  ⟨Rect.unit (s := S8x1408) ![b.val, 256 * j.val] ![1, 256] (inbScaleWide b.isLt j.isLt), scale width256 (rowsWide x b j)⟩

/-- The store of one narrow tile's scales. -/
def scaleNarrow (x : Vec F S1024x1408 .bf16) (b : Fin 8) : View.Piece (Elt F) S8x1408 .f32 :=
  ⟨Rect.unit (s := S8x1408) ![b.val, 1280] ![1, 128] (inbScaleNarrow b.isLt), scale width128 (rowsNarrow x b)⟩

/-- The stores of the scales, last first. -/
def scaleStores (x : Vec F S1024x1408 .bf16) : List (View.Piece (Elt F) S8x1408 .f32) :=
  blocks.map (scaleNarrow x) ++ (blocks.map (scaleWide x 4) ++ (blocks.map (scaleWide x 3) ++ (blocks.map (scaleWide x 2) ++
    (blocks.map (scaleWide x 1) ++ blocks.map (scaleWide x 0)))))

/-- A block of dequantised input lies in the chunk. -/
theorem inbXw {b : Nat} (hb : b < 8) :
    ∀ a : Fin 2, (![128 * b, 0] : Fin 2 → Nat) a + (![128, 1280] : Fin 2 → Nat) a ≤ (![1024, 1280] : Fin 2 → Nat) a := by
  intro a; fin_cases a <;> simp <;> omega

/-- A row of input scales lies in its window. -/
theorem inbXs {b : Nat} (hb : b < 8) :
    ∀ a : Fin 2, (![b, 0] : Fin 2 → Nat) a + (![1, 1280] : Fin 2 → Nat) a ≤ (![8, 1280] : Fin 2 → Nat) a := by
  intro a; fin_cases a <;> simp <;> omega

/-- The store of one block of the weights' side. -/
def xwBlock (s : Vec F S8x1280 .f32) (x : Vec F S1024x1280 .fp8e4m3) (b : Fin 8) : View.Piece (Elt F) S1024x1280 .bf16 :=
  ⟨Rect.unit (s := S1024x1280) ![128 * b.val, 0] ![128, 1280] (inbXw b.isLt),
    weights (View.ld s (Rect.unit (s := S8x1280) ![b.val, 0] ![1, 1280] (inbXs b.isLt)))
      (View.ld x (Rect.unit (s := S1024x1280) ![128 * b.val, 0] ![128, 1280] (inbXw b.isLt)))⟩

/-- The chunk's weights' side, read back whole. -/
def xw (s : Vec F S8x1280 .f32) (x : Vec F S1024x1280 .fp8e4m3) : FVec F S1024x1280 .bf16 :=
  fun j => View.canon (blocks.map (xwBlock s x)) ((Rect.unit (s := S1024x1280) ![0, 0] S1024x1280.size inb_S1024x1280_S1024x1280_0_0).idx j)

/-- A wide tile of the accumulator lies in it. -/
theorem inbAccWide {j : Nat} (hj : j < 5) :
    ∀ a : Fin 2, (![256 * j, 0] : Fin 2 → Nat) a + (![256, 1280] : Fin 2 → Nat) a ≤ (![1408, 1280] : Fin 2 → Nat) a := by
  intro a; fin_cases a <;> simp <;> omega

/-- The last tile of the accumulator lies in it. -/
theorem inbAccNarrow :
    ∀ a : Fin 2, (![1280, 0] : Fin 2 → Nat) a + (![128, 1280] : Fin 2 → Nat) a ≤ (![1408, 1280] : Fin 2 → Nat) a := by
  intro a; fin_cases a <;> simp

/-- The store of a wide tile's rows of the accumulator. -/
def accWide (x : Vec F S1024x1408 .bf16) (X : FVec F S1024x1280 .bf16) (old : Vec F S1408x1280 .f32) (j : Fin 5) :
    View.Piece (Elt F) S1408x1280 .f32 :=
  ⟨Rect.unit (s := S1408x1280) ![256 * j.val, 0] ![256, 1280] (inbAccWide j.isLt),
    update width256 dot_S1024x256_S1024x1280_S256x1280_0_0_1_1_n_n (fun b => rowsWide x b j)
      (View.ld old (Rect.unit (s := S1408x1280) ![256 * j.val, 0] ![256, 1280] (inbAccWide j.isLt))) X⟩

/-- The store of the narrow tile's rows of the accumulator. -/
def accNarrow (x : Vec F S1024x1408 .bf16) (X : FVec F S1024x1280 .bf16) (old : Vec F S1408x1280 .f32) :
    View.Piece (Elt F) S1408x1280 .f32 :=
  ⟨Rect.unit (s := S1408x1280) ![1280, 0] ![128, 1280] inbAccNarrow,
    update width128 dot_S1024x128_S1024x1280_S128x1280_0_0_1_1_n_n (fun b => rowsNarrow x b)
      (View.ld old (Rect.unit (s := S1408x1280) ![1280, 0] ![128, 1280] inbAccNarrow)) X⟩

/-- The stores of the accumulator, last first. -/
def accStores (x : Vec F S1024x1408 .bf16) (X : FVec F S1024x1280 .bf16) (old : Vec F S1408x1280 .f32) :
    List (View.Piece (Elt F) S1408x1280 .f32) :=
  accNarrow x X old :: [4, 3, 2, 1, 0].map (accWide x X old)

/-- A tile of the result lies in it. -/
theorem inbOut {p : Nat} (hp : p < 11) :
    ∀ a : Fin 2, (![0, 128 * p] : Fin 2 → Nat) a + (![1280, 128] : Fin 2 → Nat) a ≤ (![1280, 1408] : Fin 2 → Nat) a := by
  intro a; fin_cases a <;> simp <;> omega

/-- A result tile's part of the accumulator lies in it. -/
theorem inbOutAcc {p : Nat} (hp : p < 11) :
    ∀ a : Fin 2, (![128 * p, 0] : Fin 2 → Nat) a + (![128, 1280] : Fin 2 → Nat) a ≤ (![1408, 1280] : Fin 2 → Nat) a := by
  intro a; fin_cases a <;> simp <;> omega

/-- The store of 128 columns of the result. -/
def outPiece (g : Vec F S1280x1408 .f32) (acc : Vec F S1408x1280 .f32) (p : Fin 11) : View.Piece (Elt F) S1280x1408 .f32 :=
  ⟨Rect.unit (s := S1280x1408) ![0, 128 * p.val] ![1280, 128] (inbOut p.isLt),
    k0_pay1 (View.ld g (Rect.unit (s := S1280x1408) ![0, 128 * p.val] ![1280, 128] (inbOut p.isLt)))
      (View.ld acc (Rect.unit (s := S1408x1280) ![128 * p.val, 0] ![128, 1280] (inbOutAcc p.isLt)))⟩

/-- The stores of the result, last first. -/
def outStores (g : Vec F S1280x1408 .f32) (acc : Vec F S1408x1280 .f32) : List (View.Piece (Elt F) S1280x1408 .f32) :=
  [10, 9, 8, 7, 6, 5, 4, 3, 2, 1, 0].map (outPiece g acc)

end Cert.KernelIdeal.Tile

end
-- ==== Proof.StepValue.lean ====
/- What one step leaves in its windows and its accumulator, read at an index over the extended reals. -/
module

public import proofs.«01_k».proof.Proof.TileValue
public import proofs.«01_k».proof.Proof.Stores
public import Idealize.ShloMosaic.Lib.Pipeline.CanonAppend
public import Idealize.ShloMosaic.Lib.Pipeline.ValueKit

@[expose] public section

noncomputable section

namespace Cert.KernelIdeal.Step

open Idealize.ShloMosaic Idealize.SL.Sem Cert.KernelIdeal Cert.KernelIdeal.Gen Cert.KernelIdeal.Tile Cert.Exponent

/-- Row `r` of block `b`. -/
abbrev row (b : Fin 8) (r : Fin 128) : Fin 1024 := ⟨128 * b.val + r.val, by omega⟩

/-- The block of a row. -/
abbrev blk (k : Fin 1024) : Fin 8 := ⟨k.val / 128, by omega⟩

/-- A row of the chunk by its block and its place in the block. -/
theorem row_blk (k : Fin 1024) : row (blk k) ⟨k.val % 128, Nat.mod_lt _ (by norm_num)⟩ = k := Fin.ext (Nat.div_add_mod k.val 128)

/-- The block of such a row. -/
theorem blk_row (b : Fin 8) (r : Fin 128) : blk (row b r) = b := Fin.ext (by show (128 * b.val + r.val) / 128 = b.val; omega)

/-- Column `o` of block `b`. -/
def colOf (x : Vec Ideal S1024x1408 .bf16) (b : Fin 8) (o : Fin 1408) (r : Fin 128) : EReal := x (ix2 (row b r) o)

/-- A load of a part of a matrix, at an index. -/
theorem ld_at {n0 n1 m0 m1 a0 a1 : Nat} {e : EltTy} (X : Vec Ideal (R2 n0 n1) e)
    (inb : ∀ a : Fin 2, (![a0, a1] : Fin 2 → Nat) a + (![m0, m1] : Fin 2 → Nat) a ≤ (![n0, n1] : Fin 2 → Nat) a) (r : Fin m0) (c : Fin m1)
    (r' : Fin n0) (c' : Fin n1) (h0 : r'.val = a0 + r.val) (h1 : c'.val = a1 + c.val) :
    View.ld X (Rect.unit (s := R2 n0 n1) ![a0, a1] ![m0, m1] inb) (ix2 r c) = X (ix2 r' c') :=
  View.ld_unit_apply_of X _ _ _ _ _ fun a => by fin_cases a; exacts [h0, h1]

/-- An index inside a part of a matrix. -/
theorem mem_part {n0 n1 m0 m1 a0 a1 : Nat} (y : (R2 n0 n1).Idx)
    (inb : ∀ a : Fin 2, (![a0, a1] : Fin 2 → Nat) a + (![m0, m1] : Fin 2 → Nat) a ≤ (![n0, n1] : Fin 2 → Nat) a)
    (h0 : a0 ≤ (y 0).val ∧ (y 0).val < a0 + m0) (h1 : a1 ≤ (y 1).val ∧ (y 1).val < a1 + m1) :
    y ∈ (Rect.unit (s := R2 n0 n1) ![a0, a1] ![m0, m1] inb).set :=
  Rect.mem_set_unit.2 fun a => by fin_cases a; exacts [h0, h1]

/-- A column of a wide tile. -/
theorem at128_wide (x : Vec Ideal S1024x1408 .bf16) (b : Fin 8) (j : Fin 5) (c : Fin 256) :
    at128 (rowsWide x b j) c = colOf x b ⟨256 * j.val + c.val, by omega⟩ := by
  funext r
  refine View.ld_unit_apply_of x _ _ _ _ _ fun a => ?_
  fin_cases a
  · show 128 * b.val + r.val = 128 * b.val + 16 * (r.val / 16) + r.val % 16
    omega
  · rfl

/-- A column of a narrow tile. -/
theorem at128_narrow (x : Vec Ideal S1024x1408 .bf16) (b : Fin 8) (c : Fin 128) :
    at128 (rowsNarrow x b) c = colOf x b ⟨1280 + c.val, by omega⟩ := by
  funext r
  refine View.ld_unit_apply_of x _ _ _ _ _ fun a => ?_
  fin_cases a
  · show 128 * b.val + r.val = 128 * b.val + 16 * (r.val / 16) + r.val % 16
    omega
  · rfl

/-- Every column of the chunk has a scale. -/
def Fits (x : Vec Ideal S1024x1408 .bf16) : Prop := ∀ b o, InRange (level (colOf x b o))

/-- All eight blocks are listed. -/
theorem mem_blocks (b : Fin 8) : b ∈ blocks := by revert b; decide

/-- What holds of each narrow and each wide tile's store holds of all six rows of stores. -/
theorem forall_tiles {α : Type} {P : α → Prop} (n : Fin 8 → α) (w : Fin 5 → Fin 8 → α) (hn : ∀ b, P (n b)) (hw : ∀ j b, P (w j b)) :
    ∀ p ∈ blocks.map n ++ (blocks.map (w 4) ++ (blocks.map (w 3) ++ (blocks.map (w 2) ++ (blocks.map (w 1) ++ blocks.map (w 0))))), P p := by
  intro p hp
  simp only [List.mem_append, List.mem_map] at hp
  rcases hp with ⟨b, _, rfl⟩ | ⟨b, _, rfl⟩ | ⟨b, _, rfl⟩ | ⟨b, _, rfl⟩ | ⟨b, _, rfl⟩ | ⟨b, _, rfl⟩
  exacts [hn b, hw 4 b, hw 3 b, hw 2 b, hw 1 b, hw 0 b]

/-- The last tile of each block is listed. -/
theorem mem_narrow {α : Type} (n : Fin 8 → α) (w : Fin 5 → Fin 8 → α) (b : Fin 8) :
    n b ∈ blocks.map n ++ (blocks.map (w 4) ++ (blocks.map (w 3) ++ (blocks.map (w 2) ++ (blocks.map (w 1) ++ blocks.map (w 0))))) :=
  List.mem_append_left _ (List.mem_map_of_mem (mem_blocks b))

/-- The five wide tiles of each block are listed. -/
theorem mem_wide {α : Type} (n : Fin 8 → α) (w : Fin 5 → Fin 8 → α) (j : Fin 5) (b : Fin 8) :
    w j b ∈ blocks.map n ++ (blocks.map (w 4) ++ (blocks.map (w 3) ++ (blocks.map (w 2) ++ (blocks.map (w 1) ++ blocks.map (w 0))))) := by
  have h (j : Fin 5) : w j b ∈ blocks.map (w j) := List.mem_map_of_mem (mem_blocks b)
  have hj := h j
  simp only [List.mem_append]
  fin_cases j
  exacts [.inr (.inr (.inr (.inr (.inr hj)))), .inr (.inr (.inr (.inr (.inl hj)))), .inr (.inr (.inr (.inl hj))), .inr (.inr (.inl hj)), .inr (.inl hj)]

/-- The codes of a chunk. -/
def codesG (x : Vec Ideal S1024x1408 .bf16) : Vec Ideal S1024x1408 .fp8e5m2 :=
  fun y => codeOf (colOf x (blk (y 0)) (y 1)) (x y)

/-- The codes at a row of a block. -/
theorem codesG_apply (x : Vec Ideal S1024x1408 .bf16) (b : Fin 8) (r : Fin 128) (o : Fin 1408) :
    codesG x (ix2 (row b r) o) = codeOf (colOf x b o) (colOf x b o r) := by
  show codeOf (colOf x (blk (row b r)) o) _ = _
  rw [blk_row]; rfl

/-- The chunk's codes window holds its codes. -/
theorem codes_canon (x : Vec Ideal S1024x1408 .bf16) (hx : Fits x) : View.canon (codesStores x) = codesG x := by
  funext y
  refine View.canon_apply_of_pieces (codesG x) _ ?_ y ?_
  · refine forall_tiles _ _ (fun b z => ?_) (fun j b z => ?_)
    · obtain ⟨r, c, rfl⟩ : ∃ (r : Fin 128) (c : Fin 128), z = ix2 r c := ⟨z 0, z 1, eq_ix2 _⟩
      have e : (codesNarrow x b).1.emb (ix2 r c) = ix2 (row b r) ⟨1280 + c.val, by omega⟩ := by
        funext a; apply Fin.ext; fin_cases a
        · show 128 * b.val + 1 * r.val = 128 * b.val + r.val; omega
        · show 1280 + 1 * c.val = 1280 + c.val; omega
      rw [e, codesG_apply, ← at128_narrow]
      exact codes_apply width128 _ r c (by rw [at128_narrow]; exact hx _ _)
    · obtain ⟨r, c, rfl⟩ : ∃ (r : Fin 128) (c : Fin 256), z = ix2 r c := ⟨z 0, z 1, eq_ix2 _⟩
      have e : (codesWide x j b).1.emb (ix2 r c) = ix2 (row b r) ⟨256 * j.val + c.val, by omega⟩ := by
        funext a; apply Fin.ext; fin_cases a
        · show 128 * b.val + 1 * r.val = 128 * b.val + r.val; omega
        · show 256 * j.val + 1 * c.val = 256 * j.val + c.val; omega
      rw [e, codesG_apply, ← at128_wide]
      exact codes_apply width256 _ r c (by rw [at128_wide]; exact hx _ _)
  · have h0 : (y 0).val < 1024 := (y 0).isLt
    have h1 : (y 1).val < 1408 := (y 1).isLt
    by_cases ho : (y 1).val < 1280
    · refine ⟨_, mem_wide _ _ ⟨(y 1).val / 256, by omega⟩ ⟨(y 0).val / 128, by omega⟩,
        mem_part y (inbCodesWide (b := (y 0).val / 128) (j := (y 1).val / 256) (by omega) (by omega)) ?_ ?_⟩ <;> omega
    · refine ⟨_, mem_narrow _ _ ⟨(y 0).val / 128, by omega⟩, mem_part y (inbCodesNarrow (b := (y 0).val / 128) (by omega)) ?_ ?_⟩ <;> omega

/-- The scales of a chunk. -/
def scaleG (x : Vec Ideal S1024x1408 .bf16) : Vec Ideal S8x1408 .f32 := fun y => scaleOf (level (colOf x (y 0) (y 1)))

/-- The chunk's scales window holds its scales. -/
theorem scale_canon (x : Vec Ideal S1024x1408 .bf16) (hx : Fits x) : View.canon (scaleStores x) = scaleG x := by
  funext y
  refine View.canon_apply_of_pieces (scaleG x) _ ?_ y ?_
  · refine forall_tiles _ _ (fun b z => ?_) (fun j b z => ?_)
    · obtain ⟨r, c, rfl⟩ : ∃ (r : Fin 1) (c : Fin 128), z = ix2 r c := ⟨z 0, z 1, eq_ix2 _⟩
      have hr : r = 0 := Subsingleton.elim _ _
      subst hr
      have e : (scaleNarrow x b).1.emb (ix2 (0 : Fin 1) c) = ix2 b ⟨1280 + c.val, by omega⟩ := by
        funext a; apply Fin.ext; fin_cases a
        · show b.val + 1 * 0 = b.val; omega
        · show 1280 + 1 * c.val = 1280 + c.val; omega
      rw [e]
      show scale width128 (rowsNarrow x b) (ix2 0 c) = scaleOf (level (colOf x b ⟨1280 + c.val, _⟩))
      rw [scale_apply width128 _ c (by rw [at128_narrow]; exact hx _ _), at128_narrow]
    · obtain ⟨r, c, rfl⟩ : ∃ (r : Fin 1) (c : Fin 256), z = ix2 r c := ⟨z 0, z 1, eq_ix2 _⟩
      have hr : r = 0 := Subsingleton.elim _ _
      subst hr
      have e : (scaleWide x j b).1.emb (ix2 (0 : Fin 1) c) = ix2 b ⟨256 * j.val + c.val, by omega⟩ := by
        funext a; apply Fin.ext; fin_cases a
        · show b.val + 1 * 0 = b.val; omega
        · show 256 * j.val + 1 * c.val = 256 * j.val + c.val; omega
      rw [e]
      show scale width256 (rowsWide x b j) (ix2 0 c) = scaleOf (level (colOf x b ⟨256 * j.val + c.val, _⟩))
      rw [scale_apply width256 _ c (by rw [at128_wide]; exact hx _ _), at128_wide]
  · have h0 : (y 0).val < 8 := (y 0).isLt
    have h1 : (y 1).val < 1408 := (y 1).isLt
    by_cases ho : (y 1).val < 1280
    · refine ⟨_, mem_wide _ _ ⟨(y 1).val / 256, by omega⟩ ⟨(y 0).val, h0⟩,
        mem_part y (inbScaleWide (b := (y 0).val) (j := (y 1).val / 256) (by omega) (by omega)) ?_ ?_⟩ <;> omega
    · refine ⟨_, mem_narrow _ _ ⟨(y 0).val, h0⟩, mem_part y (inbScaleNarrow (b := (y 0).val) h0) ?_ ?_⟩ <;> omega

/-- The chunk's weights' side: each code times its block's scale. -/
def xwG (s : Vec Ideal S8x1280 .f32) (x : Vec Ideal S1024x1280 .fp8e4m3) : Vec Ideal S1024x1280 .bf16 :=
  fun y => (x y : EReal) * s (ix2 (blk (y 0)) (y 1))

/-- The dequantised input at a row of a block. -/
theorem xwG_apply (s : Vec Ideal S8x1280 .f32) (x : Vec Ideal S1024x1280 .fp8e4m3) (b : Fin 8) (r : Fin 128) (i : Fin 1280) :
    xwG s x (ix2 (row b r) i) = (x (ix2 (row b r) i) : EReal) * s (ix2 b i) := by
  show (x (ix2 (row b r) i) : EReal) * s (ix2 (blk (row b r)) i) = _
  rw [blk_row]

/-- The chunk's weights' side. -/
theorem xw_apply (s : Vec Ideal S8x1280 .f32) (x : Vec Ideal S1024x1280 .fp8e4m3) (k : Fin 1024) (i : Fin 1280) :
    xw s x (ix2 k i) = (x (ix2 k i) : EReal) * s (ix2 (blk k) i) := by
  have hw : (Rect.unit (s := S1024x1280) ![0, 0] S1024x1280.size inb_S1024x1280_S1024x1280_0_0).idx (ix2 k i) = ix2 k i := by
    funext a; apply Fin.ext; rw [Rect.idx_unit_val]; fin_cases a
    · show 0 + k.val = k.val; omega
    · show 0 + i.val = i.val; omega
  show View.canon (blocks.map (xwBlock s x)) _ = _
  rw [hw]
  refine (View.canon_apply_of_pieces (xwG s x) _ ?_ _ ?_).trans rfl
  · intro p hp z
    obtain ⟨b, _, rfl⟩ := List.mem_map.1 hp
    obtain ⟨r, c, rfl⟩ : ∃ (r : Fin 128) (c : Fin 1280), z = ix2 r c := ⟨z 0, z 1, eq_ix2 _⟩
    have e : (xwBlock s x b).1.emb (ix2 r c) = ix2 (row b r) c := by
      funext a; apply Fin.ext; fin_cases a
      · show 128 * b.val + 1 * r.val = 128 * b.val + r.val; omega
      · show 0 + 1 * c.val = c.val; omega
    rw [e, xwG_apply]
    refine (weights_apply _ _ r c).trans ?_
    exact congrArg₂ (fun p q : EReal => p * q) (ld_at x _ r c _ _ rfl (Nat.zero_add _).symm) (ld_at s _ 0 c _ _ rfl (Nat.zero_add _).symm)
  · refine ⟨_, List.mem_map_of_mem (mem_blocks (blk k)), mem_part (ix2 k i) (inbXw (b := k.val / 128) (by omega)) ?_ ?_⟩
    · show 128 * (k.val / 128) ≤ k.val ∧ k.val < 128 * (k.val / 128) + 128
      omega
    · show 0 ≤ i.val ∧ i.val < 0 + 1280
      omega

/-- One step's share of an accumulator entry. -/
def share (x : Vec Ideal S1024x1408 .bf16) (X : FVec Ideal S1024x1280 .bf16) (o : Fin 1408) (i : Fin 1280) : EReal :=
  ∑ k : Fin 1024, dequantOf (colOf x (blk k) o) (x (ix2 k o)) * X (ix2 k i)

/-- The accumulator after a step. -/
def accG (x : Vec Ideal S1024x1408 .bf16) (X : FVec Ideal S1024x1280 .bf16) (old : Vec Ideal S1408x1280 .f32) : Vec Ideal S1408x1280 .f32 :=
  fun y => (old y : EReal) + share x X (y 0) (y 1)

/-- An entry of the accumulator after a step. -/
theorem accG_apply (x : Vec Ideal S1024x1408 .bf16) (X : FVec Ideal S1024x1280 .bf16) (old : Vec Ideal S1408x1280 .f32) (o : Fin 1408) (i : Fin 1280) :
    accG x X old (ix2 o i) = (old (ix2 o i) : EReal) + ∑ k : Fin 1024, dequantOf (colOf x (blk k) o) (x (ix2 k o)) * X (ix2 k i) := rfl

/-- A row is the entry of its block's column. -/
theorem col_at (x : Vec Ideal S1024x1408 .bf16) (k : Fin 1024) (o : Fin 1408) :
    colOf x (blk k) o ⟨k.val % 128, Nat.mod_lt _ (by norm_num)⟩ = x (ix2 k o) := by
  unfold colOf; rw [row_blk]

/-- Each store of the accumulator agrees with the step's accumulator, and together they cover it. -/
theorem acc_pieces (x : Vec Ideal S1024x1408 .bf16) (hx : Fits x) (X : FVec Ideal S1024x1280 .bf16) (old : Vec Ideal S1408x1280 .f32) :
    (∀ p ∈ accStores x X old, ∀ z, p.2 z = accG x X old (p.1.emb z)) ∧ ∀ y, ∃ p ∈ accStores x X old, y ∈ p.1.set := by
  constructor
  · intro p hp
    rcases List.mem_cons.1 hp with rfl | hp
    · intro z
      obtain ⟨o, i, rfl⟩ : ∃ (o : Fin 128) (i : Fin 1280), z = ix2 o i := ⟨z 0, z 1, eq_ix2 _⟩
      have e : (accNarrow x X old).1.emb (ix2 o i) = ix2 ⟨1280 + o.val, by omega⟩ i := by
        funext a; apply Fin.ext; fin_cases a
        · show 1280 + 1 * o.val = 1280 + o.val; omega
        · show 0 + 1 * i.val = i.val; omega
      rw [e, accG_apply]
      refine (update_apply width128 _ rowsDot128 _ _ X o i (fun b => by rw [at128_narrow]; exact hx _ _)).trans ?_
      refine congrArg₂ (fun p q : EReal => p + q) (ld_at old _ o i _ _ rfl (Nat.zero_add _).symm) (Finset.sum_congr rfl fun k _ => ?_)
      rw [at128_narrow]
      exact congrArg (fun p => dequantOf _ p * X (ix2 k i)) (col_at x k _)
    · obtain ⟨j, _, rfl⟩ := List.mem_map.1 hp
      intro z
      obtain ⟨o, i, rfl⟩ : ∃ (o : Fin 256) (i : Fin 1280), z = ix2 o i := ⟨z 0, z 1, eq_ix2 _⟩
      have e : (accWide x X old j).1.emb (ix2 o i) = ix2 ⟨256 * j.val + o.val, by omega⟩ i := by
        funext a; apply Fin.ext; fin_cases a
        · show 256 * j.val + 1 * o.val = 256 * j.val + o.val; omega
        · show 0 + 1 * i.val = i.val; omega
      rw [e, accG_apply]
      refine (update_apply width256 _ rowsDot256 (fun b => rowsWide x b j)
        (View.ld old (Rect.unit (s := S1408x1280) ![256 * j.val, 0] ![256, 1280] (inbAccWide j.isLt))) X o i (fun b => by rw [at128_wide]; exact hx _ _)).trans ?_
      refine congrArg₂ (fun p q : EReal => p + q) (ld_at old _ o i _ _ rfl (Nat.zero_add _).symm) (Finset.sum_congr rfl fun k _ => ?_)
      rw [at128_wide]
      exact congrArg (fun p => dequantOf _ p * X (ix2 k i)) (col_at x k _)
  · intro y
    have h0 : (y 0).val < 1408 := (y 0).isLt
    have h1 : (y 1).val < 1280 := (y 1).isLt
    by_cases ho : (y 0).val < 1280
    · have hm : ∀ j : Fin 5, j ∈ [4, 3, 2, 1, (0 : Fin 5)] := by decide
      refine ⟨_, List.mem_cons_of_mem _ (List.mem_map_of_mem (hm ⟨(y 0).val / 256, by omega⟩)),
        mem_part y (inbAccWide (j := (y 0).val / 256) (by omega)) ?_ ?_⟩ <;> omega
    · refine ⟨_, List.mem_cons_self, mem_part y inbAccNarrow ?_ ?_⟩ <;> omega

/-- The accumulator after a step that keeps the earlier one. -/
theorem acc_canon (x : Vec Ideal S1024x1408 .bf16) (hx : Fits x) (X : FVec Ideal S1024x1280 .bf16) (old : Vec Ideal S1408x1280 .f32) :
    View.canon (accStores x X old) = accG x X old :=
  funext fun y => View.canon_apply_of_pieces (accG x X old) _ (acc_pieces x hx X old).1 y ((acc_pieces x hx X old).2 y)

/-- The accumulator after a step that stored something before. -/
theorem acc_canon_append (x : Vec Ideal S1024x1408 .bf16) (hx : Fits x) (X : FVec Ideal S1024x1280 .bf16) (old : Vec Ideal S1408x1280 .f32)
    (L : List (View.Piece (Elt Ideal) S1408x1280 .f32)) : View.canon (accStores x X old ++ L) = accG x X old :=
  funext fun y => View.canon_append_of_pieces (accG x X old) L _ (acc_pieces x hx X old).1 y ((acc_pieces x hx X old).2 y)

/-- The zeros the first step stores. -/
theorem zeros_apply (y : S1408x1280.Idx) : (k0_pay12 (F := Ideal)) y = (0 : EReal) := Ideal.ofBits_zero_f32

/-- The gradient plus the accumulator's transpose. -/
def outG (g : Vec Ideal S1280x1408 .f32) (acc : Vec Ideal S1408x1280 .f32) : Vec Ideal S1280x1408 .f32 :=
  fun y => (g y : EReal) + acc (ix2 (y 1) (y 0))

/-- The result the last step stores. -/
theorem out_canon (g : Vec Ideal S1280x1408 .f32) (acc : Vec Ideal S1408x1280 .f32) (i : Fin 1280) (o : Fin 1408) :
    View.canon (outStores g acc) (ix2 i o) = (g (ix2 i o) : EReal) + acc (ix2 o i) := by
  refine (View.canon_apply_of_pieces (outG g acc) _ ?_ _ ?_).trans rfl
  · intro p hp z
    obtain ⟨q, _, rfl⟩ := List.mem_map.1 hp
    obtain ⟨r, c, rfl⟩ : ∃ (r : Fin 1280) (c : Fin 128), z = ix2 r c := ⟨z 0, z 1, eq_ix2 _⟩
    have e : (outPiece g acc q).1.emb (ix2 r c) = ix2 r ⟨128 * q.val + c.val, by omega⟩ := by
      funext a; apply Fin.ext; fin_cases a
      · show 0 + 1 * r.val = r.val; omega
      · show 128 * q.val + 1 * c.val = 128 * q.val + c.val; omega
    rw [e]
    refine congrArg₂ (fun a b : EReal => a + b) ?_ ?_
    · exact ld_at g _ r c _ _ (Nat.zero_add _).symm rfl
    · refine Eq.trans ?_ (ld_at acc (inbOutAcc q.isLt) c r _ _ rfl (Nat.zero_add _).symm)
      refine congrArg (View.ld acc _) ?_
      funext a; fin_cases a <;> rfl
  · have hm : ∀ j : Fin 11, j ∈ [10, 9, 8, 7, 6, 5, 4, 3, 2, 1, (0 : Fin 11)] := by decide
    refine ⟨_, List.mem_map_of_mem (hm ⟨o.val / 128, by omega⟩), mem_part (ix2 i o) (inbOut (p := o.val / 128) (by omega)) ?_ ?_⟩
    · show 0 ≤ i.val ∧ i.val < 0 + 1280
      omega
    · show 128 * (o.val / 128) ≤ o.val ∧ o.val < 128 * (o.val / 128) + 128
      omega

end Cert.KernelIdeal.Step

end
-- ==== Proof.StepA.lean ====
/- What the first grid step stores. -/
module

public import proofs.«01_k».proof.Proof.Stores

@[expose] public section

noncomputable section

namespace Cert.KernelIdeal.Tile

open Idealize.ShloMosaic Idealize.SL.Sem Cert.KernelIdeal Cert.KernelIdeal.Gen

variable {F : FTy → Type} [FloatOps F]
variable (m : (ℓ : Loc nD τ sig) → Buf (Elt F) ℓ) (c : Dev nD)

/-- The codes of the first step. -/
theorem codes_A (t : Fin cfg0.N) (h0 : t.val % 256 = 0) (h1 : ¬t.val % 256 = 255) :
    (outsAt0 m c t.val t.isLt).2.1 = View.canon (codesStores (iblk m c 2 t)) := by
  rw [outsAt0_A m c t h0 h1]
  frame_out
  sl_kernel_rfl

/-- The scales of the first step. -/
theorem scale_A (t : Fin cfg0.N) (h0 : t.val % 256 = 0) (h1 : ¬t.val % 256 = 255) :
    (outsAt0 m c t.val t.isLt).2.2.1 = View.canon (scaleStores (iblk m c 2 t)) := by
  rw [outsAt0_A m c t h0 h1]
  frame_out
  sl_kernel_rfl

/-- The accumulator after the first step. -/
theorem acc_A (t : Fin cfg0.N) (h0 : t.val % 256 = 0) (h1 : ¬t.val % 256 = 255) :
    (outsAt0 m c t.val t.isLt).2.2.2 = View.canon (accStores (iblk m c 2 t) (xw (iblk m c 1 t) (iblk m c 0 t))
      k0_pay12 ++ [⟨Rect.unit (s := S1408x1280) ![0, 0] S1408x1280.size inb_S1408x1280_S1408x1280_0_0, k0_pay12⟩]) := by
  rw [outsAt0_A m c t h0 h1]
  frame_out
  simp (discharger := decide) only [View.readCov_skip, View.readCov_fill, read_unread_whole]
  simp only [View.readCov_eq_canon']
  sl_kernel_rfl

end Cert.KernelIdeal.Tile

end
-- ==== Proof.StepB.lean ====
/- What a middle grid step stores. -/
module

public import proofs.«01_k».proof.Proof.Stores

@[expose] public section

noncomputable section

namespace Cert.KernelIdeal.Tile

open Idealize.ShloMosaic Idealize.SL.Sem Cert.KernelIdeal Cert.KernelIdeal.Gen

variable {F : FTy → Type} [FloatOps F]
variable (m : (ℓ : Loc nD τ sig) → Buf (Elt F) ℓ) (c : Dev nD)

/-- The codes of a middle step. -/
theorem codes_B (t : Fin cfg0.N) (h0 : ¬t.val % 256 = 0) (h1 : ¬t.val % 256 = 255) :
    (outsAt0 m c t.val t.isLt).2.1 = View.canon (codesStores (iblk m c 2 t)) := by
  rw [outsAt0_B m c t h0 h1]
  frame_out
  sl_kernel_rfl

/-- The scales of a middle step. -/
theorem scale_B (t : Fin cfg0.N) (h0 : ¬t.val % 256 = 0) (h1 : ¬t.val % 256 = 255) :
    (outsAt0 m c t.val t.isLt).2.2.1 = View.canon (scaleStores (iblk m c 2 t)) := by
  rw [outsAt0_B m c t h0 h1]
  frame_out
  sl_kernel_rfl

/-- The accumulator after a middle step. -/
theorem acc_B (t : Fin cfg0.N) (h0 : ¬t.val % 256 = 0) (h1 : ¬t.val % 256 = 255) :
    (outsAt0 m c t.val t.isLt).2.2.2 = View.canon (accStores (iblk m c 2 t) (xw (iblk m c 1 t) (iblk m c 0 t))
      (outsAt0 m c (t.val - 1) (Nat.lt_of_le_of_lt (Nat.sub_le t.val 1) t.isLt)).2.2.2) := by
  rw [outsAt0_B m c t h0 h1]
  frame_out
  simp (discharger := decide) only [View.readCov_skip, View.readCov_fill, read_unread_whole]
  simp only [View.readCov_eq_canon']
  sl_kernel_rfl

end Cert.KernelIdeal.Tile

end
-- ==== Proof.StepC.lean ====
/- What the last grid step stores. -/
module

public import proofs.«01_k».proof.Proof.Stores

@[expose] public section

noncomputable section

namespace Cert.KernelIdeal.Tile

open Idealize.ShloMosaic Idealize.SL.Sem Cert.KernelIdeal Cert.KernelIdeal.Gen

variable {F : FTy → Type} [FloatOps F]
variable (m : (ℓ : Loc nD τ sig) → Buf (Elt F) ℓ) (c : Dev nD)

/-- The codes of the last step. -/
theorem codes_C (t : Fin cfg0.N) (h0 : ¬t.val % 256 = 0) (h1 : t.val % 256 = 255) :
    (outsAt0 m c t.val t.isLt).2.1 = View.canon (codesStores (iblk m c 2 t)) := by
  rw [outsAt0_C m c t h0 h1]
  frame_out
  sl_kernel_rfl

/-- The scales of the last step. -/
theorem scale_C (t : Fin cfg0.N) (h0 : ¬t.val % 256 = 0) (h1 : t.val % 256 = 255) :
    (outsAt0 m c t.val t.isLt).2.2.1 = View.canon (scaleStores (iblk m c 2 t)) := by
  rw [outsAt0_C m c t h0 h1]
  frame_out
  sl_kernel_rfl

/-- The accumulator after the last step. -/
theorem acc_C (t : Fin cfg0.N) (h0 : ¬t.val % 256 = 0) (h1 : t.val % 256 = 255) :
    (outsAt0 m c t.val t.isLt).2.2.2 = View.canon (accStores (iblk m c 2 t) (xw (iblk m c 1 t) (iblk m c 0 t))
      (outsAt0 m c (t.val - 1) (Nat.lt_of_le_of_lt (Nat.sub_le t.val 1) t.isLt)).2.2.2) := by
  rw [outsAt0_C m c t h0 h1]
  frame_out
  simp (discharger := decide) only [View.readCov_skip, View.readCov_fill, read_unread_whole]
  simp only [View.readCov_eq_canon']
  sl_kernel_rfl

/-- The result, stored at the last step from the accumulator. -/
theorem out_C (t : Fin cfg0.N) (h0 : ¬t.val % 256 = 0) (h1 : t.val % 256 = 255) :
    (outsAt0 m c t.val t.isLt).1 = View.canon (outStores (iblk m c 3 t) (outsAt0 m c t.val t.isLt).2.2.2) := by
  rw [acc_C m c t h0 h1, outsAt0_C m c t h0 h1]
  frame_out
  simp only [View.readCov_eq_canon', read_unread_whole]
  sl_kernel_rfl

end Cert.KernelIdeal.Tile

end
-- ==== Proof.KernelValue.lean ====
/- The kernel's three results on whole arrays. -/
module

public import proofs.«01_k».proof.Proof.Spec
public import proofs.«01_k».proof.Proof.StepValue
public import proofs.«01_k».proof.Proof.StepA
public import proofs.«01_k».proof.Proof.StepB
public import proofs.«01_k».proof.Proof.StepC
public import proofs.«01_k».proof.Proof.Gen.KernelIdeal.Value

@[expose] public section

noncomputable section

namespace Cert.KernelIdeal.Step

open Idealize.ShloMosaic Idealize.SL.Sem Cert.KernelIdeal Cert.KernelIdeal.Gen Cert.KernelIdeal.Tile Cert.Exponent Idealize.ShloMosaic.TcCoe

variable (m : (ℓ : Loc nD τ sig) → Buf (Elt Ideal) ℓ) (c : Dev nD)

/-- The input's codes as the kernel's call receives them. -/
def X : (R2 262144 1280).Idx → EReal := V m c (Pipeline.arrRef spec0 0)
/-- The input's scales. -/
def S : (R2 2048 1280).Idx → EReal := V m c (Pipeline.arrRef spec0 1)
/-- The output's gradient. -/
def D : (R2 262144 1408).Idx → EReal := V m c (Pipeline.arrRef spec0 2)
/-- The earlier weight gradient. -/
def M : (R2 1280 1408).Idx → EReal := V m c (Pipeline.arrRef spec0 3)

/-- There are 256 steps. -/
theorem lt256 (t : Fin cfg0.N) : t.val < 256 := lt_of_lt_of_eq t.isLt N_0

/-- Step `t` reads block `t` of the input codes. -/
theorem index0 : ∀ t : Fin cfg0.N, win0_0.index t (0 : Fin 2) = t.val ∧ win0_0.index t (1 : Fin 2) = 0 := (by decide +kernel : ∀ t : Fin grid0.N, _)
/-- Step `t` reads block `t` of the input scales. -/
theorem index1 : ∀ t : Fin cfg0.N, win0_1.index t (0 : Fin 2) = t.val ∧ win0_1.index t (1 : Fin 2) = 0 := (by decide +kernel : ∀ t : Fin grid0.N, _)
/-- Step `t` reads block `t` of the gradient. -/
theorem index2 : ∀ t : Fin cfg0.N, win0_2.index t (0 : Fin 2) = t.val ∧ win0_2.index t (1 : Fin 2) = 0 := (by decide +kernel : ∀ t : Fin grid0.N, _)
/-- Every step reads the one block of the earlier weight gradient. -/
theorem index3 : ∀ t : Fin cfg0.N, win0_3.index t (0 : Fin 2) = 0 ∧ win0_3.index t (1 : Fin 2) = 0 := (by decide +kernel : ∀ t : Fin grid0.N, _)

/-- The chunk's input codes are rows of the whole array. -/
theorem block0 (t : Fin cfg0.N) (k : Fin 1024) (i : Fin 1280) :
    iblk m c 0 t (ix2 k i) = X m c (ix2 ⟨1024 * t.val + k.val, by have := lt256 t; omega⟩ i) := by
  refine congrArg (V m c (Pipeline.arrRef spec0 0)) ?_
  funext a; apply Fin.ext; fin_cases a
  · show win0_0.index t (0 : Fin 2) * 1024 + 1 * k.val = 1024 * t.val + k.val
    rw [(index0 t).1]; omega
  · show win0_0.index t (1 : Fin 2) * 1280 + 1 * i.val = i.val
    rw [(index0 t).2]; omega

/-- The chunk's input scales are rows of the whole array. -/
theorem block1 (t : Fin cfg0.N) (b : Fin 8) (i : Fin 1280) :
    iblk m c 1 t (ix2 b i) = S m c (ix2 ⟨8 * t.val + b.val, by have := lt256 t; omega⟩ i) := by
  refine congrArg (V m c (Pipeline.arrRef spec0 1)) ?_
  funext a; apply Fin.ext; fin_cases a
  · show win0_1.index t (0 : Fin 2) * 8 + 1 * b.val = 8 * t.val + b.val
    rw [(index1 t).1]; omega
  · show win0_1.index t (1 : Fin 2) * 1280 + 1 * i.val = i.val
    rw [(index1 t).2]; omega

/-- The chunk's gradient is rows of the whole array. -/
theorem block2 (t : Fin cfg0.N) (k : Fin 1024) (o : Fin 1408) :
    iblk m c 2 t (ix2 k o) = D m c (ix2 ⟨1024 * t.val + k.val, by have := lt256 t; omega⟩ o) := by
  refine congrArg (V m c (Pipeline.arrRef spec0 2)) ?_
  funext a; apply Fin.ext; fin_cases a
  · show win0_2.index t (0 : Fin 2) * 1024 + 1 * k.val = 1024 * t.val + k.val
    rw [(index2 t).1]; omega
  · show win0_2.index t (1 : Fin 2) * 1408 + 1 * o.val = o.val
    rw [(index2 t).2]; omega

/-- The earlier weight gradient is read whole. -/
theorem block3 (t : Fin cfg0.N) (i : Fin 1280) (o : Fin 1408) : iblk m c 3 t (ix2 i o) = M m c (ix2 i o) := by
  refine congrArg (V m c (Pipeline.arrRef spec0 3)) ?_
  funext a; apply Fin.ext; fin_cases a
  · show win0_3.index t (0 : Fin 2) * 1280 + 1 * i.val = i.val
    rw [(index3 t).1]; omega
  · show win0_3.index t (1 : Fin 2) * 1408 + 1 * o.val = o.val
    rw [(index3 t).2]; omega

/-- A block's column, in the chunk and in the whole array. -/
theorem col_chunk (t : Fin cfg0.N) (b : Fin 8) (o : Fin 1408) :
    colOf (iblk m c 2 t) b o = Spec.col (D m c) ⟨8 * t.val + b.val, by have := lt256 t; omega⟩ o := by
  funext r
  refine (block2 m c t _ o).trans (congrArg (fun T => D m c (ix2 T o)) (Fin.ext ?_))
  show 1024 * t.val + (128 * b.val + r.val) = 128 * (8 * t.val + b.val) + r.val
  omega

variable (hD : Spec.Fits (D m c))
include hD

/-- Every column of a chunk's blocks has a scale. -/
theorem fits (t : Fin cfg0.N) : Fits (iblk m c 2 t) := fun b o => by rw [col_chunk]; exact hD _ _

/-- What each step leaves in the codes window. -/
theorem codes_step (t : Fin cfg0.N) : (outsAt0 m c t.val t.isLt).2.1 = codesG (iblk m c 2 t) := by
  rw [← codes_canon _ (fits m c hD t)]
  by_cases h0 : t.val % 256 = 0
  · exact codes_A m c t h0 (by omega)
  by_cases h1 : t.val % 256 = 255
  · exact codes_C m c t h0 h1
  · exact codes_B m c t h0 h1

/-- What each step leaves in the scales window. -/
theorem scale_step (t : Fin cfg0.N) : (outsAt0 m c t.val t.isLt).2.2.1 = scaleG (iblk m c 2 t) := by
  rw [← scale_canon _ (fits m c hD t)]
  by_cases h0 : t.val % 256 = 0
  · exact scale_A m c t h0 (by omega)
  by_cases h1 : t.val % 256 = 255
  · exact scale_C m c t h0 h1
  · exact scale_B m c t h0 h1

omit hD in
/-- One step's share of an accumulator entry (nothing beyond the last step). -/
def shareAt (o : Fin 1408) (i : Fin 1280) (n : ℕ) : EReal :=
  if h : n < cfg0.N then share (iblk m c 2 ⟨n, h⟩) (xw (iblk m c 1 ⟨n, h⟩) (iblk m c 0 ⟨n, h⟩)) o i else 0

omit hD in
theorem shareAt_eq (o : Fin 1408) (i : Fin 1280) (n : ℕ) (h : n < cfg0.N) :
    shareAt m c o i n = share (iblk m c 2 ⟨n, h⟩) (xw (iblk m c 1 ⟨n, h⟩) (iblk m c 0 ⟨n, h⟩)) o i := dif_pos h

/-- The first step's accumulator. -/
theorem acc_first (h : 0 < cfg0.N) (o : Fin 1408) (i : Fin 1280) : (outsAt0 m c 0 h).2.2.2 (ix2 o i) = shareAt m c o i 0 := by
  have e := acc_A m c ⟨0, h⟩ (by rfl) (by show ¬0 % 256 = 255; decide)
  rw [acc_canon_append _ (fits m c hD _)] at e
  refine (congrFun e (ix2 o i)).trans ?_
  refine Eq.trans ?_ ((zero_add _).trans (shareAt_eq m c o i 0 h).symm)
  exact congrArg (fun z : EReal => z + _) (zeros_apply _)

/-- A later step's accumulator. -/
theorem acc_next (n : ℕ) (h : n + 1 < cfg0.N) (o : Fin 1408) (i : Fin 1280) :
    (outsAt0 m c (n + 1) h).2.2.2 (ix2 o i) = ((outsAt0 m c n (Nat.lt_of_succ_lt h)).2.2.2 (ix2 o i) : EReal) + shareAt m c o i (n + 1) := by
  have hN : n + 1 < 256 := lt_of_lt_of_eq h N_0
  have h0 : ¬(⟨n + 1, h⟩ : Fin cfg0.N).val % 256 = 0 := by show ¬(n + 1) % 256 = 0; omega
  have e : (outsAt0 m c (n + 1) h).2.2.2 = accG (iblk m c 2 ⟨n + 1, h⟩) (xw (iblk m c 1 ⟨n + 1, h⟩) (iblk m c 0 ⟨n + 1, h⟩))
      (outsAt0 m c n (Nat.lt_of_succ_lt h)).2.2.2 := by
    rw [← acc_canon _ (fits m c hD _)]
    by_cases h1 : (⟨n + 1, h⟩ : Fin cfg0.N).val % 256 = 255
    · exact acc_C m c ⟨n + 1, h⟩ h0 h1
    · exact acc_B m c ⟨n + 1, h⟩ h0 h1
  refine (congrFun e (ix2 o i)).trans ?_
  refine congrArg (fun z : EReal => _ + z) ?_
  exact (shareAt_eq m c o i (n + 1) h).symm

/-- The accumulator after step `n` is the sum of the shares so far. -/
theorem acc_sum (n : ℕ) (h : n < cfg0.N) (o : Fin 1408) (i : Fin 1280) :
    (outsAt0 m c n h).2.2.2 (ix2 o i) = ∑ s ∈ Finset.range (n + 1), shareAt m c o i s := by
  induction n with
  | zero => rw [acc_first m c hD h, Finset.sum_range_one]
  | succ n ih => rw [acc_next m c hD n h, ih (Nat.lt_of_succ_lt h), Finset.sum_range_succ _ (n + 1)]

omit hD in
/-- A step's share is the sum of its rows' terms. -/
theorem share_terms (t : Fin 256) (o : Fin 1408) (i : Fin 1280) :
    shareAt m c o i t.val = ∑ k : Fin 1024, Spec.term (X m c) (S m c) (D m c) i o ⟨1024 * t.val + k.val, by omega⟩ := by
  have h : t.val < cfg0.N := lt_of_lt_of_eq t.isLt N_0.symm
  refine (shareAt_eq m c o i t.val h).trans (Finset.sum_congr rfl fun k _ => ?_)
  have hb : (⟨8 * t.val + (blk k).val, by have := t.isLt; have := (blk k).isLt; omega⟩ : Fin 2048) = Spec.blockOf ⟨1024 * t.val + k.val, by omega⟩ :=
    Fin.ext (by show 8 * t.val + k.val / 128 = (1024 * t.val + k.val) / 128; omega)
  rw [xw_apply, col_chunk, block0, block1, block2, mul_comm]
  show (X m c _ * S m c (ix2 ⟨8 * t.val + (blk k).val, _⟩ i)) * dequantOf (Spec.col (D m c) ⟨8 * t.val + (blk k).val, _⟩ o) _ = _
  rw [hb]
  rfl

/-- The accumulator after the last step. -/
theorem acc_last (t : Fin cfg0.N) (ht : t.val = 255) (o : Fin 1408) (i : Fin 1280) :
    (outsAt0 m c t.val t.isLt).2.2.2 (ix2 o i) = ∑ T : Fin 262144, Spec.term (X m c) (S m c) (D m c) i o T := by
  rw [acc_sum m c hD, ht, Finset.sum_range]
  have e := Fin.sum_univ_univ_mul_add 256 1024 fun l => if hl : l < 262144 then Spec.term (X m c) (S m c) (D m c) i o ⟨l, hl⟩ else 0
  refine Eq.trans (Finset.sum_congr rfl fun t _ => ?_) (e.trans (Finset.sum_congr rfl fun T _ => dif_pos T.isLt))
  refine (share_terms m c t o i).trans (Finset.sum_congr rfl fun k _ => ?_)
  have hl : t.val * 1024 + k.val < 262144 := by omega
  rw [dif_pos hl]
  exact congrArg _ (Fin.ext (by show 1024 * t.val + k.val = t.val * 1024 + k.val; omega))

/-- What the last step leaves in the first window. -/
theorem out_last (t : Fin cfg0.N) (ht : t.val = 255) (i : Fin 1280) (o : Fin 1408) :
    (outsAt0 m c t.val t.isLt).1 (ix2 i o) = Spec.out (X m c) (S m c) (D m c) (M m c) (ix2 i o) := by
  have e := congrFun (out_C m c t (by omega) (by omega)) (ix2 i o)
  rw [out_canon, block3] at e
  exact e.trans (congrArg (fun z : EReal => M m c (ix2 i o) + z) (acc_last m c hD t ht o i))

/-- The kernel's second result. -/
theorem value5 : Value.G5 m c = Spec.codes (D m c) := by
  funext y
  obtain ⟨T, o, rfl⟩ : ∃ (T : Fin 262144) (o : Fin 1408), y = ix2 T o := ⟨y 0, y 1, eq_ix2 _⟩
  have hp : Value.pt5Of (ix2 T o) = T.val / 1024 := by
    show 1 * (T.val / 1024 - 0) + 1 * (o.val / 1408 - 0) = _; omega
  have h : T.val / 1024 < cfg0.N := lt_of_lt_of_eq (by omega) N_0.symm
  have hl : Value.loc5Of (ix2 T o) = ix2 (⟨T.val % 1024, Nat.mod_lt _ (by norm_num)⟩ : Fin 1024) o := by
    funext a; apply Fin.ext; fin_cases a
    · rfl
    · exact Nat.mod_eq_of_lt o.isLt
  unfold Value.G5
  rw [dif_pos (by rw [hp]; exact h), hl, Value.fold0_congr m c _ _ _ (by omega) hp, ← Value.outsAt0_sweep m c _ h, codes_step m c hD ⟨T.val / 1024, h⟩]
  show codeOf (colOf (iblk m c 2 ⟨T.val / 1024, h⟩) (blk ⟨T.val % 1024, _⟩) o) (iblk m c 2 ⟨T.val / 1024, h⟩ (ix2 ⟨T.val % 1024, _⟩ o)) = codeOf (Spec.col (D m c) (Spec.blockOf T) o) (D m c (ix2 T o))
  rw [col_chunk, block2]
  refine congrArg₂ (fun B R => codeOf (Spec.col (D m c) B o) (D m c (ix2 R o))) (Fin.ext ?_) (Fin.ext ?_)
  · show 8 * (T.val / 1024) + T.val % 1024 / 128 = T.val / 128; omega
  · show 1024 * (T.val / 1024) + T.val % 1024 = T.val; omega

/-- The kernel's third result. -/
theorem value6 : Value.G6 m c = Spec.scales (D m c) := by
  funext y
  obtain ⟨B, o, rfl⟩ : ∃ (B : Fin 2048) (o : Fin 1408), y = ix2 B o := ⟨y 0, y 1, eq_ix2 _⟩
  have hp : Value.pt6Of (ix2 B o) = B.val / 8 := by
    show 1 * (B.val / 8 - 0) + 1 * (o.val / 1408 - 0) = _; omega
  have h : B.val / 8 < cfg0.N := lt_of_lt_of_eq (by omega) N_0.symm
  have hl : Value.loc6Of (ix2 B o) = ix2 (⟨B.val % 8, Nat.mod_lt _ (by norm_num)⟩ : Fin 8) o := by
    funext a; apply Fin.ext; fin_cases a
    · rfl
    · exact Nat.mod_eq_of_lt o.isLt
  unfold Value.G6
  rw [dif_pos (by rw [hp]; exact h), hl, Value.fold0_congr m c _ _ _ (by omega) hp, ← Value.outsAt0_sweep m c _ h, scale_step m c hD ⟨B.val / 8, h⟩]
  show scaleOf (level (colOf (iblk m c 2 ⟨B.val / 8, h⟩) ⟨B.val % 8, _⟩ o)) = scaleOf (level (Spec.col (D m c) B o))
  rw [col_chunk]
  refine congrArg (fun B => scaleOf (level (Spec.col (D m c) B o))) (Fin.ext ?_)
  show 8 * (B.val / 8) + B.val % 8 = B.val; omega

omit hD in
theorem last_lt : 255 < cfg0.N := lt_of_lt_of_eq (by omega) N_0.symm

omit hD in
/-- The first result is what the last step leaves in its window. -/
theorem result_last (t : Fin cfg0.N) (ht : t.val = 255) : Value.G4 m c = (outsAt0 m c t.val t.isLt).1 := by
  obtain ⟨n, h⟩ := t
  subst ht
  rw [Value.outsAt0_sweep]
  exact Value.G4_last m c

/-- The kernel's first result. -/
theorem value4 : Value.G4 m c = Spec.out (X m c) (S m c) (D m c) (M m c) := by
  funext y
  obtain ⟨i, o, rfl⟩ : ∃ (i : Fin 1280) (o : Fin 1408), y = ix2 i o := ⟨y 0, y 1, eq_ix2 _⟩
  rw [result_last m c ⟨255, last_lt⟩ rfl]
  exact out_last m c hD _ rfl i o

end Cert.KernelIdeal.Step

end
-- ==== Proof.RefPay.lean ====
/- The reference's body read at an index over the extended reals. -/
module

public import proofs.«01_k».proof.Proof.Spec
public import proofs.«01_k».proof.Proof.Gen.ReferenceIdeal.Skeleton

@[expose] public section

noncomputable section

namespace Cert.ReferenceIdeal.Body

open Idealize.ShloMosaic Idealize.SL.Sem Cert.ReferenceIdeal Cert.ReferenceIdeal.Gen Cert.Exponent
open Cert.KernelIdeal.Tile (R2 level mag clamp codeOf dequantOf ofBits_bot)
open Cert.Spec (col blockOf)

/-- Three axes. -/
abbrev R3 (a b w : Nat) : Shape := ⟨3, ![a, b, w]⟩

variable {n w : Nat}

/-- Rows split into blocks of 128. -/
theorem split_rows (h : (R3 2048 128 w).numel = (R2 262144 w).numel) (B : Fin 2048) (r : Fin 128) (o : Fin w) :
    Shape.reshapeEquiv h (ix3 B r o) = ix2 (⟨128 * B.val + r.val, by omega⟩ : Fin 262144) o :=
  Shape.reshapeEquiv_eq_of_rowMajor h (by
    rw [Shape.rowMajor_val_two, Shape.rowMajor_val_three]
    show (128 * B.val + r.val) * w + o.val = (B.val * 128 + r.val) * w + o.val
    rw [Nat.mul_comm 128])

/-- Blocks joined into rows. -/
theorem join_rows (h : (R2 262144 w).numel = (R3 2048 128 w).numel) (T : Fin 262144) (o : Fin w) :
    Shape.reshapeEquiv h (ix2 T o) = ix3 (blockOf T) (⟨T.val % 128, Nat.mod_lt _ (by norm_num)⟩ : Fin 128) o :=
  Shape.reshapeEquiv_eq_of_rowMajor h (by
    rw [Shape.rowMajor_val_two, Shape.rowMajor_val_three]
    show (T.val / 128 * 128 + T.val % 128) * w + o.val = T.val * w + o.val
    rw [Nat.div_add_mod'])

/-- An array split into blocks. -/
theorem split_apply {φ : FTy} (v : FVec Ideal (R2 262144 w) φ) (h : (R2 262144 w).ShapeCasts (R3 2048 128 w)) (B : Fin 2048) (r : Fin 128) (o : Fin w) :
    shapeCast (R3 2048 128 w) v h (ix3 B r o) = v (ix2 (⟨128 * B.val + r.val, by omega⟩ : Fin 262144) o) :=
  congrArg v (split_rows _ B r o)

/-- An array of blocks joined. -/
theorem join_apply {φ : FTy} (v : FVec Ideal (R3 2048 128 w) φ) (h : (R3 2048 128 w).ShapeCasts (R2 262144 w)) (T : Fin 262144) (o : Fin w) :
    shapeCast (R2 262144 w) v h (ix2 T o) = v (ix3 (blockOf T) (⟨T.val % 128, Nat.mod_lt _ (by norm_num)⟩ : Fin 128) o) :=
  congrArg v (join_rows _ T o)

/-- A cast to the same shape changes nothing. -/
theorem same_apply {s : Shape} {φ : FTy} (v : FVec Ideal s φ) (h : s.ShapeCasts s) : shapeCast s v h = v := by
  funext i
  show v (Shape.reshapeEquiv _ i) = v i
  rw [Shape.reshapeEquiv_self]

/-- The greatest magnitude of each block's column. -/
theorem greatest_apply (v : FVec Ideal (R3 n 128 w) .f32) (h : (R3 n 128 w).Reduces [1] (R2 n w)) (B : Fin n) (o : Fin w) :
    multiReduction .maximumf [1] (R2 n w) (absf v) 0xFF800000#32 h (.inl rfl) rfl (ix2 B o) = Finset.univ.sup fun r : Fin 128 => mag (v (ix3 B r o)) := by
  pointwise []
  rw [ofBits_bot]
  rfl

/-- A value per block and column, repeated along the block's rows. -/
theorem spread_apply {φ : FTy} (s : FVec Ideal (R2 n w) φ) (h : (R2 n w).ShapeCasts (R3 n 1 w)) (h' : (R3 n 1 w).Broadcasts (R3 n 128 w)) (B : Fin n)
    (r : Fin 128) (o : Fin w) : broadcastTo (R3 n 128 w) (shapeCast (R3 n 1 w) s h) h' (ix3 B r o) = s (ix2 B o) := by
  refine (broadcastTo_apply _ h' (ix3 B r o) (ix3 B (0 : Fin 1) o) fun ax => ?_).trans ?_
  · match ax with
    | ⟨0, _⟩ =>
      show B.val = if n = 1 then 0 else B.val
      split
      · have := B.isLt; omega
      · rfl
    | ⟨1, _⟩ => rfl
    | ⟨2, _⟩ =>
      show o.val = if w = 1 then 0 else o.val
      split
      · have := o.isLt; omega
      · rfl
  · exact congrArg s (Shape.reshapeEquiv_eq_of_rowMajor _ (by
      rw [Shape.rowMajor_val_two, Shape.rowMajor_val_three]
      show B.val * w + o.val = (B.val * 1 + 0) * w + o.val
      rw [Nat.mul_one, Nat.add_zero]))

/-- The gradient in blocks. -/
theorem pay3_apply (D : FVec Ideal S262144x1408 .bf16) (B : Fin 2048) (r : Fin 128) (o : Fin 1408) : k0_pay3 (F := Ideal) D (ix3 B r o) = col D B o r := by
  unfold k0_pay3
  refine (split_apply _ _ B r o).trans ?_
  exact congrFun (same_apply D _) _

/-- A product at an index. -/
theorem mul_apply {s : Shape} {φ : FTy} (a b : FVec Ideal s φ) (i : s.Idx) : (mulf a b i : EReal) = (a i : EReal) * (b i : EReal) := rfl

/-- A constant at an index. -/
theorem broadcast_apply {s : Shape} {φ : FTy} (b : BitVec φ.bits) (i : s.Idx) : (broadcast s (Scalar.ofBits (F := Ideal) φ b) i : EReal) = Ideal.ofBits φ b := rfl

/-- The greatest magnitude of a block's column, in blocks and in the whole array. -/
theorem sup_mag (v : FVec Ideal S262144x1408 .bf16) (B : Fin 2048) (o : Fin 1408) :
    (Finset.univ.sup fun r : Fin 128 => mag (k0_pay3 (F := Ideal) v (ix3 B r o))) = Finset.univ.sup fun r : Fin 128 => mag (col v B o r) :=
  Finset.sup_congr rfl fun r _ => congrArg mag (pay3_apply v B r o)

/-- The level of each block's column. -/
theorem level_apply (D : FVec Ideal S262144x1408 .bf16) (B : Fin 2048) (o : Fin 1408) :
    (mulf (multiReduction .maximumf [1] S2048x1408 (absf (k0_pay3 (F := Ideal) D)) 0xFF800000#32 reduces_S2048x128x1408_S2048x1408 (.inl rfl) rfl)
      (broadcast S2048x1408 (Scalar.ofBits (F := Ideal) .f32 0x37924925#32)) (ix2 B o) : EReal) = level (col D B o) := by
  rw [mul_apply, greatest_apply, broadcast_apply, sup_mag]
  rfl

/-- The word of two. -/
theorem ofBits_two : Ideal.ofBits .f32 0x40000000#32 = ((2 : ℝ) : EReal) := by
  rw [show (0x40000000#32) = BitVec.ofNat 32 128 <<< 23 by decide, ofBits_power _ (by decide) (by decide)]
  norm_num

/-- A choice by the disjunction of two comparisons. -/
theorem select_or (p q : Prop) [Decidable p] [Decidable q] (a b : EReal) :
    Scalar.select (IntOp.ori (BitVec.ofBool (decide p)) (BitVec.ofBool (decide q))) a b = if p ∨ q then a else b := by
  by_cases hp : p <;> by_cases hq : q <;> simp [hp, hq, Scalar.select, IntOp.ori]

/-- The exponent of a value, written with the logarithm and the floor. -/
theorem exponent_apply {s : Shape} (Y : FVec Ideal s .f32) (i : s.Idx) (hy : InRange (Y i)) :
    select (ori (cmpf .olt Y (broadcast s (Scalar.ofBits (F := Ideal) .f32 0x00800000#32))) (cmpf .oeq Y (broadcast s (Scalar.ofBits (F := Ideal) .f32 0x7F800000#32))))
      (broadcast s (Scalar.ofBits (F := Ideal) .f32 0x00000000#32))
      (addf (floor (divf (log Y) (broadcast s (Scalar.log (Scalar.ofBits (F := Ideal) .f32 0x40000000#32))))) (broadcast s (Scalar.ofBits (F := Ideal) .f32 0x3F800000#32))) i
      = ((expo (Y i) : ℝ) : EReal) := by
  have e126 : Ideal.ofBits .f32 0x00800000#32 = (((2 : ℝ) ^ (-126 : ℤ) : ℝ) : EReal) := by
    rw [show (0x00800000#32) = BitVec.ofNat 32 1 <<< 23 by decide, ofBits_power _ (by decide) (by decide)]
    norm_num
  show Scalar.select (IntOp.ori (BitVec.ofBool (decide (Y i < Ideal.ofBits .f32 0x00800000#32))) (BitVec.ofBool (decide (Y i = Ideal.ofBits .f32 0x7F800000#32))))
    (Ideal.ofBits .f32 0x00000000#32) (Ideal.liftRound Int.floor (Ideal.div (Ideal.log (Y i)) (Ideal.log (Ideal.ofBits .f32 0x40000000#32))) + Ideal.ofBits .f32 0x3F800000#32) = _
  rw [← reference_expo _ hy, e126, ofBits_two, Ideal.ofBits_zero_f32, show (0x7F800000#32) = BitVec.ofNat 32 255 <<< 23 by decide, ofBits_top,
    show (0x3F800000#32) = BitVec.ofNat 32 127 <<< 23 by decide, ofBits_power _ (by decide) (by decide)]
  rw [show ((2 : ℝ) ^ (((127 : ℕ) : ℤ) - 127)) = (1 : ℝ) by norm_num]
  refine (select_or _ _ _ _).trans (if_congr Iff.rfl rfl rfl)

/-- The exponent of each block's column. -/
theorem pay4_apply (D : FVec Ideal S262144x1408 .bf16) (B : Fin 2048) (o : Fin 1408) (hy : InRange (level (col D B o))) :
    k0_pay4 (F := Ideal) D (ix2 B o) = ((expo (level (col D B o)) : ℝ) : EReal) := by
  rw [← level_apply] at hy ⊢
  exact exponent_apply _ _ hy

/-- A power of two with an integer exponent. -/
theorem exp2_apply {s : Shape} (e : FVec Ideal s .f32) (i : s.Idx) (z : ℤ) (h : e i = ((z : ℝ) : EReal)) : exp2 e i = (((2 : ℝ) ^ z : ℝ) : EReal) := by
  show Ideal.exp2 (e i) = _
  rw [h, exp2_int]

/-- The scale of each block's column. -/
theorem pay5_apply (D : FVec Ideal S262144x1408 .bf16) (B : Fin 2048) (o : Fin 1408) (hy : InRange (level (col D B o))) :
    k0_pay5 (F := Ideal) D (ix2 B o) = scaleOf (level (col D B o)) :=
  (exp2_apply _ _ _ (pay4_apply D B o hy))

/-- The reciprocal of a scale. -/
theorem inverse_apply {s : Shape} (e : FVec Ideal s .f32) (i : s.Idx) (z : ℤ) (h : e i = ((z : ℝ) : EReal)) :
    exp2 (subf (broadcast s (Scalar.ofBits (F := Ideal) .f32 0x00000000#32)) e) i = (((2 : ℝ) ^ (-z) : ℝ) : EReal) := by
  show Ideal.exp2 (Ideal.ofBits .f32 0x00000000#32 - e i) = _
  rw [h, Ideal.ofBits_zero_f32, ← exp2_int]
  congr 1
  push_cast
  exact zero_sub _

/-- Clamping to the format's range. -/
theorem clamp_apply {s : Shape} (v : FVec Ideal s .f32) (i : s.Idx) :
    minimumf (broadcast s (Scalar.ofBits (F := Ideal) .f32 0x47600000#32)) (maximumf (broadcast s (Scalar.ofBits (F := Ideal) .f32 0xC7600000#32)) v) i = clamp (v i) := rfl

/-- The codes in blocks. -/
theorem pay6_apply (D : FVec Ideal S262144x1408 .bf16) (B : Fin 2048) (r : Fin 128) (o : Fin 1408) (hy : InRange (level (col D B o))) :
    k0_pay6 (F := Ideal) D (ix3 B r o) = codeOf (col D B o) (col D B o r) := by
  unfold k0_pay6
  refine (clamp_apply _ _).trans (congrArg clamp ?_)
  rw [mul_apply, spread_apply, pay3_apply, inverse_apply _ _ _ (pay4_apply D B o hy)]
  rfl

/-- A row is the entry of its block at its place in the block. -/
theorem col_row (D : FVec Ideal S262144x1408 .bf16) (T : Fin 262144) (o : Fin 1408) :
    col D (blockOf T) o ⟨T.val % 128, Nat.mod_lt _ (by norm_num)⟩ = D (ix2 T o) :=
  congrArg (fun R => D (ix2 R o)) (Fin.ext (Nat.div_add_mod _ _))

/-- The codes. -/
theorem pay2_apply (D : FVec Ideal S262144x1408 .bf16) (T : Fin 262144) (o : Fin 1408) (hy : InRange (level (col D (blockOf T) o))) :
    k0_pay2 (F := Ideal) (k0_pay6 D) (ix2 T o) = codeOf (col D (blockOf T) o) (D (ix2 T o)) := by
  unfold k0_pay2
  rw [join_apply, pay6_apply D _ _ _ hy, col_row]

/-- The dequantised input in blocks. -/
theorem pay7_apply (X : FVec Ideal S262144x1280 .fp8e4m3) (S : FVec Ideal S2048x1280 .f32) (B : Fin 2048) (r : Fin 128) (i : Fin 1280) :
    (k0_pay7 (F := Ideal) X S (ix3 B r i) : EReal) = (X (ix2 (⟨128 * B.val + r.val, by omega⟩ : Fin 262144) i) : EReal) * (S (ix2 B i) : EReal) := by
  unfold k0_pay7
  rw [mul_apply, spread_apply, same_apply, same_apply]
  exact congrArg (fun z : EReal => z * S (ix2 B i)) (split_apply X _ B r i)

/-- The product contracts the rows. -/
theorem rows_dot (l : S262144x1280.Idx → EReal) (r : S262144x1408.Idx → EReal) (a : S1280x1408.Idx → EReal) (i : Fin 1280) (o : Fin 1408) :
    Ideal.matmul dot_S262144x1280_S262144x1408_S1280x1408_0_0_1_1_n_n l r a (ix2 i o) = a (ix2 i o) + ∑ T : Fin 262144, l (ix2 T i) * r (ix2 T o) := by
  refine Ideal.matmul_apply₁_of (K := 262144) _ rfl rfl _ _ _ _ (fun T => ix2 T i) (fun T => ix2 T o) ?_ ?_ <;> intro k <;> funext b <;> fin_cases b <;> rfl

/-- The product over all rows, added to what was there. -/
theorem product_apply (l : FVec Ideal S262144x1280 .bf16) (r : FVec Ideal S262144x1408 .bf16) (a : FVec Ideal S1280x1408 .f32) (i : Fin 1280) (o : Fin 1408) :
    (addf a (matmul dot_S262144x1280_S262144x1408_S1280x1408_0_0_1_1_n_n none l r (constant (F := Ideal) S1280x1408 .f32 0x00000000#32)) (ix2 i o) : EReal)
      = (a (ix2 i o) : EReal) + ∑ T : Fin 262144, (l (ix2 T i) : EReal) * (r (ix2 T o) : EReal) := by
  refine congrArg (fun z : EReal => a (ix2 i o) + z) ((rows_dot l r _ i o).trans ?_)
  have z : (constant (F := Ideal) S1280x1408 .f32 0x00000000#32) (ix2 i o) = 0 := Ideal.ofBits_zero_f32
  rw [z, zero_add]

/-- The accumulated gradient. -/
theorem pay1_apply (X : FVec Ideal S262144x1280 .fp8e4m3) (S : FVec Ideal S2048x1280 .f32) (D : FVec Ideal S262144x1408 .bf16) (M : FVec Ideal S1280x1408 .f32)
    (hD : Spec.Fits D) (i : Fin 1280) (o : Fin 1408) :
    k0_pay1 (F := Ideal) (k0_pay5 D) (k0_pay6 D) (k0_pay7 X S) M (ix2 i o) = Spec.out X S D M (ix2 i o) := by
  unfold k0_pay1
  refine (product_apply _ _ M i o).trans (congrArg (fun z : EReal => M (ix2 i o) + z) (Finset.sum_congr rfl fun T _ => ?_))
  rw [join_apply, join_apply, mul_apply, spread_apply, pay7_apply]
  show _ * ((k0_pay6 (F := Ideal) D (ix3 (blockOf T) ⟨T.val % 128, _⟩ o) : EReal) * (k0_pay5 (F := Ideal) D (ix2 (blockOf T) o) : EReal)) = _
  rw [pay6_apply D _ _ _ (hD _ _), pay5_apply D _ _ (hD _ _), col_row]
  refine congrArg (fun R => X (ix2 R i) * S (ix2 (blockOf T) i) * (codeOf (col D (blockOf T) o) (D (ix2 T o)) * scaleOf (level (col D (blockOf T) o)))) (Fin.ext (Nat.div_add_mod _ _))

end Cert.ReferenceIdeal.Body

end
-- ==== Proof.RefValue.lean ====
/- The reference's three results on whole arrays. -/
module

public import proofs.«01_k».proof.Proof.RefPay
public import proofs.«01_k».proof.Proof.Gen.ReferenceIdeal.Value
public import Idealize.ShloMosaic.Lib.Pipeline.ValueKit

@[expose] public section

noncomputable section

namespace Cert.ReferenceIdeal.Body

open Idealize.ShloMosaic Idealize.SL.Sem Cert.ReferenceIdeal Cert.ReferenceIdeal.Gen Cert.Exponent Idealize.ShloMosaic.TcCoe
open Cert.KernelIdeal.Tile (R2 level mag clamp codeOf dequantOf ofBits_bot)

variable (m : (ℓ : Loc nD τ sig) → Buf (Elt Ideal) ℓ) (c : Dev nD)

/-- The input's codes as the call receives them. -/
def X : (R2 262144 1280).Idx → EReal := V m c (Pipeline.arrRef spec0 0)
/-- The input's scales. -/
def S : (R2 2048 1280).Idx → EReal := V m c (Pipeline.arrRef spec0 1)
/-- The output's gradient. -/
def D : (R2 262144 1408).Idx → EReal := V m c (Pipeline.arrRef spec0 2)
/-- The earlier weight gradient. -/
def M : (R2 1280 1408).Idx → EReal := V m c (Pipeline.arrRef spec0 3)

/-- The one step reads block zero of every input and writes block zero of every result. -/
theorem index0 : ∀ t : Fin cfg0.N, win0_0.index t (0 : Fin 2) = 0 ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)
theorem index3 : ∀ t : Fin cfg0.N, win0_3.index t (0 : Fin 2) = 0 ∧ win0_3.index t (1 : Fin 2) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)

/-! The one block of every array is the array. -/

/-- An index at zero offsets is the same index. -/
theorem whole_index {a b i0 i1 : Nat} (z y : (R2 a b).Idx) (h : i0 = 0 ∧ i1 = 0) (e0 : (z 0).val = i0 * a + 1 * (y 0).val)
    (e1 : (z 1).val = i1 * b + 1 * (y 1).val) : z = y := by
  obtain ⟨rfl, rfl⟩ := h
  rw [Nat.zero_mul, Nat.one_mul, Nat.zero_add] at e0 e1
  funext k; apply Fin.ext; fin_cases k
  · exact e0
  · exact e1

theorem emb0 (t : Fin cfg0.N) (y : (R2 262144 1280).Idx) : ((cfg0.win 0).blk t).view.emb y = y := whole_index _ y (index0 t) rfl rfl
theorem emb1 (t : Fin cfg0.N) (y : (R2 2048 1280).Idx) : ((cfg0.win 1).blk t).view.emb y = y := whole_index _ y (index1 t) rfl rfl
theorem emb2 (t : Fin cfg0.N) (y : (R2 262144 1408).Idx) : ((cfg0.win 2).blk t).view.emb y = y := whole_index _ y (index2 t) rfl rfl
theorem emb3 (t : Fin cfg0.N) (y : (R2 1280 1408).Idx) : ((cfg0.win 3).blk t).view.emb y = y := whole_index _ y (index3 t) rfl rfl
theorem emb4 (t : Fin cfg0.N) (y : (R2 1280 1408).Idx) : ((cfg0.win 4).blk t).view.emb y = y := whole_index _ y (index4 t) rfl rfl
theorem emb5 (t : Fin cfg0.N) (y : (R2 262144 1408).Idx) : ((cfg0.win 5).blk t).view.emb y = y := whole_index _ y (index5 t) rfl rfl
theorem emb6 (t : Fin cfg0.N) (y : (R2 2048 1408).Idx) : ((cfg0.win 6).blk t).view.emb y = y := whole_index _ y (index6 t) rfl rfl

/-! So every input is read whole. -/

theorem block0 (t : Fin cfg0.N) : iblk m c 0 t = X m c := funext fun y => congrArg (V m c (Pipeline.arrRef spec0 0)) (emb0 t y)
theorem block1 (t : Fin cfg0.N) : iblk m c 1 t = S m c := funext fun y => congrArg (V m c (Pipeline.arrRef spec0 1)) (emb1 t y)
theorem block2 (t : Fin cfg0.N) : iblk m c 2 t = D m c := funext fun y => congrArg (V m c (Pipeline.arrRef spec0 2)) (emb2 t y)
theorem block3 (t : Fin cfg0.N) : iblk m c 3 t = M m c := funext fun y => congrArg (V m c (Pipeline.arrRef spec0 3)) (emb3 t y)

/-- Loading the whole gradient gives it. -/
theorem ld_whole (x : Vec Ideal S262144x1408 .bf16) : View.ld x r0_0 = x := by
  funext y
  refine congrArg x ?_
  funext k; apply Fin.ext; fin_cases k
  · show 0 + 1 * (y 0).val = (y 0).val; omega
  · show 0 + 1 * (y 1).val = (y 1).val; omega

variable (hD : Spec.Fits (D m c))
include hD

/-- The reference's second result. -/
theorem value5 : (dats m 0 c).arrAt 5 cfg0.N = Spec.codes (D m c) := by
  refine (dats m 0 c).arrAt_eq_of_covers 5 _ (by decide +kernel) fun t hf y => ?_
  blk_simp
  rw [after0_5]
  frame_out
  refine Eq.trans ?_ (congrArg (Spec.codes (D m c)) (emb5 t y)).symm
  obtain ⟨T, o, rfl⟩ : ∃ (T : Fin 262144) (o : Fin 1408), y = ix2 T o := ⟨y 0, y 1, eq_ix2 _⟩
  rw [block2]
  unfold k0_pay9
  rw [ld_whole]
  exact pay2_apply (D m c) T o (hD _ _)

/-- The reference's third result. -/
theorem value6 : (dats m 0 c).arrAt 6 cfg0.N = Spec.scales (D m c) := by
  refine (dats m 0 c).arrAt_eq_of_covers 6 _ (by decide +kernel) fun t hf y => ?_
  blk_simp
  rw [after0_6]
  frame_out
  refine Eq.trans ?_ (congrArg (Spec.scales (D m c)) (emb6 t y)).symm
  obtain ⟨B, o, rfl⟩ : ∃ (B : Fin 2048) (o : Fin 1408), y = ix2 B o := ⟨y 0, y 1, eq_ix2 _⟩
  rw [block2]
  unfold k0_pay8
  rw [ld_whole]
  exact pay5_apply (D m c) B o (hD _ _)

/-- The reference's first result. -/
theorem value4 : (dats m 0 c).arrAt 4 cfg0.N = Spec.out (X m c) (S m c) (D m c) (M m c) := by
  refine (dats m 0 c).arrAt_eq_of_covers 4 _ (by decide +kernel) fun t hf y => ?_
  blk_simp
  rw [after0_4]
  frame_out
  refine Eq.trans ?_ (congrArg (Spec.out (X m c) (S m c) (D m c) (M m c)) (emb4 t y)).symm
  obtain ⟨i, o, rfl⟩ : ∃ (i : Fin 1280) (o : Fin 1408), y = ix2 i o := ⟨y 0, y 1, eq_ix2 _⟩
  rw [block0, block1, block2, block3]
  unfold k0_pay9 k0_pay8
  rw [ld_whole]
  exact pay1_apply (X m c) (S m c) (D m c) (M m c) hD i o

end Cert.ReferenceIdeal.Body

end
-- ==== Proof.Equal.lean ====
/- The kernel and the reference end with the same results. -/
module

public import proofs.«01_k».proof.Proof.KernelValue
public import proofs.«01_k».proof.Proof.RefValue
public import proofs.«01_k».proof.Defs
public import Idealize.ShloMosaic.Lib.Claim

@[expose] public section

noncomputable section

namespace Cert.Equal

open Idealize.ShloMosaic Idealize.SL.Sem Idealize.ShloMosaic.TcCoe
open Cert.KernelIdeal.Tile (R2 mag)

section Kernel

open Cert.KernelIdeal Cert.KernelIdeal.Gen

variable (m : (ℓ : Loc nD τ sig) → Buf (Elt Ideal) ℓ) (c : Dev nD)

/-! What the kernel's call receives is the arguments with their leading axes merged. -/

/-- The input's codes. -/
theorem kernel_X : Step.X m c = shapeCast S262144x1280 (m ((c.tc : Thread nD τ).loc main_arg0)) shapeCasts_S64x4096x1280_S262144x1280 := by
  show StableHlo.after hostOps0 (fun b => m (c, b)) (Proc.devRef .tc main_v0) = _
  after_results
  rfl

/-- The input's scales. -/
theorem kernel_S : Step.S m c = shapeCast S2048x1280 (m ((c.tc : Thread nD τ).loc main_arg1)) shapeCasts_S64x32x1280_S2048x1280 := by
  show StableHlo.after hostOps0 (fun b => m (c, b)) (Proc.devRef .tc main_v1) = _
  after_results
  rfl

/-- The output's gradient. -/
theorem kernel_D : Step.D m c = shapeCast S262144x1408 (m ((c.tc : Thread nD τ).loc main_arg2)) shapeCasts_S64x4096x1408_S262144x1408 := by
  show StableHlo.after hostOps0 (fun b => m (c, b)) (Proc.devRef .tc main_v2) = _
  after_results
  rfl

/-- The earlier weight gradient is the argument itself. -/
theorem kernel_M : Step.M m c = m ((c.tc : Thread nD τ).loc main_arg3) := V_main_arg3 m c

/-- One of two comparisons holds when their disjunction does. -/
theorem of_or (p q : Prop) [Decidable p] [Decidable q] (h : IntOp.ori (BitVec.ofBool (decide p)) (BitVec.ofBool (decide q)) = 1#1) : p ∨ q := by
  by_cases hp : p <;> by_cases hq : q <;> simp_all [IntOp.ori]

/-- The word of infinity. -/
theorem top_word : Ideal.ofBits .f32 0x7F800000#32 = ⊤ := by
  rw [show (0x7F800000#32) = BitVec.ofNat 32 255 <<< 23 by decide, Cert.Exponent.ofBits_top]

/-- Under the precondition every column of every block has a scale. -/
theorem kernel_fits [Cert.Pre_dy_in_range.Facts] (h : Cert.Pre_KernelIdeal_dy_in_range m) : Spec.Fits (Step.D m c) := by
  intro B o
  refine Spec.inRange_level _ fun r => ?_
  unfold Spec.col
  rw [kernel_D]
  show mag (m ((c.tc : Thread nD τ).loc main_arg2) (Shape.reshapeEquiv _ _)) ≤ _ ∨ mag (m ((c.tc : Thread nD τ).loc main_arg2) (Shape.reshapeEquiv _ _)) = ⊤
  generalize Shape.reshapeEquiv _ _ = z
  have e := congrFun (h c) z
  rw [← top_word]
  exact of_or _ _ e

end Kernel

section Reference

open Cert.ReferenceIdeal Cert.ReferenceIdeal.Gen

variable (m : (ℓ : Loc nD τ sig) → Buf (Elt Ideal) ℓ) (c : Dev nD)

/-- The input's codes, for the reference. -/
theorem reference_X : Body.X m c = shapeCast S262144x1280 (m ((c.tc : Thread nD τ).loc main_arg0)) shapeCasts_S64x4096x1280_S262144x1280 := by
  show StableHlo.after hostOps0 (fun b => m (c, b)) (Proc.devRef .tc main_v0) = _
  after_results
  rfl

/-- The input's scales, for the reference. -/
theorem reference_S : Body.S m c = shapeCast S2048x1280 (m ((c.tc : Thread nD τ).loc main_arg1)) shapeCasts_S64x32x1280_S2048x1280 := by
  show StableHlo.after hostOps0 (fun b => m (c, b)) (Proc.devRef .tc main_v1) = _
  after_results
  rfl

/-- The output's gradient, for the reference. -/
theorem reference_D : Body.D m c = shapeCast S262144x1408 (m ((c.tc : Thread nD τ).loc main_arg2)) shapeCasts_S64x4096x1408_S262144x1408 := by
  show StableHlo.after hostOps0 (fun b => m (c, b)) (Proc.devRef .tc main_v2) = _
  after_results
  rfl

/-- The earlier weight gradient is the argument itself. -/
theorem reference_M : Body.M m c = m ((c.tc : Thread nD τ).loc main_arg3) := V_main_arg3 m c

end Reference

/-- What the two calls receive is the same when the arguments are. -/
theorem same_arguments (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3)) :
    ReferenceIdeal.Body.X m' c = KernelIdeal.Step.X m c ∧ ReferenceIdeal.Body.S m' c = KernelIdeal.Step.S m c
      ∧ ReferenceIdeal.Body.D m' c = KernelIdeal.Step.D m c ∧ ReferenceIdeal.Body.M m' c = KernelIdeal.Step.M m c := by
  refine ⟨?_, ?_, ?_, ?_⟩
  · rw [reference_X, kernel_X, h0]
  · rw [reference_S, kernel_S, h1]
  · rw [reference_D, kernel_D, h2]
  · rw [reference_M, kernel_M, h3]

/-- The kernel and the reference end with the same three results, the arguments as they were. -/
theorem algebraic [Cert.Pre_dy_in_range.Facts] :
    Cert.algebraic_KernelIdeal_ReferenceIdeal_pre_dy_in_range := by
  intro m g m' g' hpre hargs
  have same c := same_arguments m m' c (hargs c).1 (hargs c).2.1 (hargs c).2.2.1 (hargs c).2.2.2
  have fitsK c := kernel_fits m c hpre
  have fitsR c : Spec.Fits (ReferenceIdeal.Body.D m' c) := by rw [(same c).2.2.1]; exact fitsK c
  refine ⟨fun c => KernelIdeal.Value.G4 m c, fun c => KernelIdeal.Value.G5 m c, fun c => KernelIdeal.Value.G6 m c, KernelIdeal.Value.run m g, ?_⟩
  refine (θ_run _ _ _).mono (fun r h c => ?_) (ReferenceIdeal.Value.run_blocks m' g')
  obtain ⟨h4, h5, h6, ha⟩ := h c
  refine ⟨h4.trans ?_, h5.trans ?_, h6.trans ?_, ha⟩
  · rw [ReferenceIdeal.Body.value4 m' c (fitsR c)]
    refine Eq.trans ?_ (KernelIdeal.Step.value4 m c (fitsK c)).symm
    rw [(same c).1, (same c).2.1, (same c).2.2.1, (same c).2.2.2]
  · rw [ReferenceIdeal.Body.value5 m' c (fitsR c)]
    refine Eq.trans ?_ (KernelIdeal.Step.value5 m c (fitsK c)).symm
    rw [(same c).2.2.1]
  · rw [ReferenceIdeal.Body.value6 m' c (fitsR c)]
    refine Eq.trans ?_ (KernelIdeal.Step.value6 m c (fitsK c)).symm
    rw [(same c).2.2.1]

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The precondition's facts of shape. -/
theorem preFacts : Cert.Pre_dy_in_range.Facts where
  bitsLt_bf16_f32 := by decide
  bcast_S_S64x4096x1408 := by decide

/-- The frames, `preserves` and the equality of the three results over the extended reals. -/
theorem claim : Cert.Claim := ⟨Cert.Kernel.Gen.facts, Cert.KernelIdeal.Gen.facts, Cert.ReferenceIdeal.Gen.facts, preFacts, fun m ρ _ => Cert.Kernel.Gen.frame m ρ, fun m ρ _ => Cert.KernelIdeal.Gen.frame m ρ, fun m ρ _ => Cert.KernelIdeal.Gen.frame m ρ, fun m ρ _ => Cert.ReferenceIdeal.Gen.frame m ρ, fun m ρ _ => Cert.ReferenceIdeal.Gen.frame m ρ, trivial,
  haveI := preFacts; Cert.Equal.algebraic⟩

end Cert.Proof

end
